-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S2x80x2x7168 Cert.KernelIdeal.S2x80x1x7168
  ∧ IdealRules.bf16_pair.Statement Cert.KernelIdeal.S160x256 Cert.KernelIdeal.S80x256
  ∧ IdealRules.bf16_pair.Statement Cert.KernelIdeal.S1x80x2x256 Cert.KernelIdeal.S1x80x1x256
  ∧ IdealRules.bf16_pair.Statement Cert.KernelIdeal.S1x1x2x7168 Cert.KernelIdeal.S1x1x1x7168
  ∧ IdealRules.bf16_pair.Statement Cert.KernelIdeal.S2x7168 Cert.KernelIdeal.S1x7168

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x1x20480 : Shape := ⟨3, ![48, 1, 20480]⟩
abbrev S10240x7168 : Shape := ⟨2, ![10240, 7168]⟩
abbrev S160x7168 : Shape := ⟨2, ![160, 7168]⟩
abbrev S160x3584 : Shape := ⟨2, ![160, 3584]⟩
abbrev S48x20480 : Shape := ⟨2, ![48, 20480]⟩
abbrev S48x7168 : Shape := ⟨2, ![48, 7168]⟩
abbrev S48x1024 : Shape := ⟨2, ![48, 1024]⟩
abbrev S512x7168 : Shape := ⟨2, ![512, 7168]⟩
abbrev S2x80x7168 : Shape := ⟨3, ![2, 80, 7168]⟩
abbrev S256x256 : Shape := ⟨2, ![256, 256]⟩
abbrev S160x128 : Shape := ⟨2, ![160, 128]⟩
abbrev S160x256 : Shape := ⟨2, ![160, 256]⟩
abbrev S80x256 : Shape := ⟨2, ![80, 256]⟩
abbrev S1x80x256 : Shape := ⟨3, ![1, 80, 256]⟩
abbrev S1x1x7168 : Shape := ⟨3, ![1, 1, 7168]⟩
abbrev S1x7168 : Shape := ⟨2, ![1, 7168]⟩
abbrev S2x7168 : Shape := ⟨2, ![2, 7168]⟩
abbrev S1x2x7168 : Shape := ⟨3, ![1, 2, 7168]⟩
abbrev S8x2x7168 : Shape := ⟨3, ![8, 2, 7168]⟩
abbrev S16x7168 : Shape := ⟨2, ![16, 7168]⟩
abbrev S16x256 : Shape := ⟨2, ![16, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S8x16x256 : Shape := ⟨3, ![8, 16, 256]⟩
abbrev S1x16x256 : Shape := ⟨3, ![1, 16, 256]⟩
abbrev S1024x256 : Shape := ⟨2, ![1024, 256]⟩
abbrev S48x256 : Shape := ⟨2, ![48, 256]⟩

abbrev nBuf : Space → Nat
  | .hbm => 6
  | .vmem => 10
  | .smem => 0
  | _ => 0

abbrev bufTy : (tb : Table) → Fin (tcTables nBuf tb) → BufTy
  | .hbm, ⟨0, _⟩ => ⟨S48x1x20480, .bf16⟩
  | .hbm, ⟨1, _⟩ => ⟨S10240x7168, .i8⟩
  | .hbm, ⟨2, _⟩ => ⟨S160x7168, .bf16⟩
  | .hbm, ⟨3, _⟩ => ⟨S160x3584, .i8⟩
  | .hbm, ⟨4, _⟩ => ⟨S48x20480, .bf16⟩
  | .hbm, ⟨5, _⟩ => ⟨S48x7168, .bf16⟩
  | .local _ .vmem, ⟨0, _⟩ => ⟨S48x1024, .bf16⟩
  | .local _ .vmem, ⟨1, _⟩ => ⟨S48x1024, .bf16⟩
  | .local _ .vmem, ⟨2, _⟩ => ⟨S512x7168, .i8⟩
  | .local _ .vmem, ⟨3, _⟩ => ⟨S512x7168, .i8⟩
  | .local _ .vmem, ⟨4, _⟩ => ⟨S160x7168, .bf16⟩
  | .local _ .vmem, ⟨5, _⟩ => ⟨S160x3584, .i8⟩
  | .local _ .vmem, ⟨6, _⟩ => ⟨S48x7168, .bf16⟩
  | .local _ .vmem, ⟨7, _⟩ => ⟨S2x80x7168, .i32⟩
  | .local _ .vmem, ⟨8, _⟩ => ⟨S2x80x7168, .i32⟩
  | .local _ .vmem, ⟨9, _⟩ => ⟨S48x7168, .f32⟩
  | _, _ => ⟨S48x1x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![20], ![false]⟩

def k0_off1 (i : grid0.Coords) (c0_i32_1 : BitVec 32) : Fin 3 → Nat :=
  let c0 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  let c0_2 : Index := 0#32
  ![0, v5.toNat, 0]
def k0_off2 (i : grid0.Coords) (c0_i32_6 : BitVec 32) : Fin 3 → Nat :=
  let c1 : Index := 1#32
  let arg0 : BitVec 32 := BitVec.ofNat 32 (i 0).val
  let c4_i32_5 : BitVec 32 := 4#32
  let v21 : BitVec 32 := Scalar.muli arg0 c4_i32_5
  let v22 : BitVec 32 := Scalar.addi v21 c0_i32_6
  let v23 : Index := Scalar.indexCast v22
  let c0_7 : Index := 0#32
  ![1, v23.toNat, 0]
def k0_cond2 (i : grid0.Coords) : BitVec 1 :=
  let arg0 : BitVec 32 := BitVec.ofNat 32 (i 0).val
  let c19_i32 : BitVec 32 := 19#32
  let v5327 : BitVec 1 := Scalar.cmpi .eq arg0 c19_i32
  let v5328 : BitVec 32 := Scalar.extui v5327
  let c0_i32_1100 : BitVec 32 := 0#32
  let v5329 : BitVec 1 := Scalar.cmpi .ne v5328 c0_i32_1100
  v5329

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S48x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
abbrev S48x1x20480 : Shape := ⟨3, ![48, 1, 20480]⟩
abbrev S10240x7168 : Shape := ⟨2, ![10240, 7168]⟩
abbrev S160x7168 : Shape := ⟨2, ![160, 7168]⟩
abbrev S160x3584 : Shape := ⟨2, ![160, 3584]⟩
abbrev S48x20480 : Shape := ⟨2, ![48, 20480]⟩
abbrev S48x7168 : Shape := ⟨2, ![48, 7168]⟩
abbrev S48x1024 : Shape := ⟨2, ![48, 1024]⟩
abbrev S512x7168 : Shape := ⟨2, ![512, 7168]⟩
abbrev S2x80x7168 : Shape := ⟨3, ![2, 80, 7168]⟩
abbrev S2x80x2x7168 : Shape := ⟨4, ![2, 80, 2, 7168]⟩
abbrev S2x80x1x7168 : Shape := ⟨4, ![2, 80, 1, 7168]⟩
abbrev S256x256 : Shape := ⟨2, ![256, 256]⟩
abbrev S160x128 : Shape := ⟨2, ![160, 128]⟩
abbrev S160x256 : Shape := ⟨2, ![160, 256]⟩
abbrev S80x256 : Shape := ⟨2, ![80, 256]⟩
abbrev S1x80x256 : Shape := ⟨3, ![1, 80, 256]⟩
abbrev S1x80x2x256 : Shape := ⟨4, ![1, 80, 2, 256]⟩
abbrev S1x80x1x256 : Shape := ⟨4, ![1, 80, 1, 256]⟩
abbrev S1x1x7168 : Shape := ⟨3, ![1, 1, 7168]⟩
abbrev S1x1x2x7168 : Shape := ⟨4, ![1, 1, 2, 7168]⟩
abbrev S1x1x1x7168 : Shape := ⟨4, ![1, 1, 1, 7168]⟩
abbrev S1x7168 : Shape := ⟨2, ![1, 7168]⟩
abbrev S2x7168 : Shape := ⟨2, ![2, 7168]⟩
abbrev S1x2x7168 : Shape := ⟨3, ![1, 2, 7168]⟩
abbrev S8x2x7168 : Shape := ⟨3, ![8, 2, 7168]⟩
abbrev S16x7168 : Shape := ⟨2, ![16, 7168]⟩
abbrev S16x256 : Shape := ⟨2, ![16, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S8x16x256 : Shape := ⟨3, ![8, 16, 256]⟩
abbrev S1x16x256 : Shape := ⟨3, ![1, 16, 256]⟩
abbrev S1024x256 : Shape := ⟨2, ![1024, 256]⟩
abbrev S48x256 : Shape := ⟨2, ![48, 256]⟩

abbrev nBuf : Space → Nat
  | .hbm => 6
  | .vmem => 10
  | .smem => 0
  | _ => 0

abbrev bufTy : (tb : Table) → Fin (tcTables nBuf tb) → BufTy
  | .hbm, ⟨0, _⟩ => ⟨S48x1x20480, .bf16⟩
  | .hbm, ⟨1, _⟩ => ⟨S10240x7168, .i8⟩
  | .hbm, ⟨2, _⟩ => ⟨S160x7168, .bf16⟩
  | .hbm, ⟨3, _⟩ => ⟨S160x3584, .i8⟩
  | .hbm, ⟨4, _⟩ => ⟨S48x20480, .bf16⟩
  | .hbm, ⟨5, _⟩ => ⟨S48x7168, .bf16⟩
  | .local _ .vmem, ⟨0, _⟩ => ⟨S48x1024, .bf16⟩
  | .local _ .vmem, ⟨1, _⟩ => ⟨S48x1024, .bf16⟩
  | .local _ .vmem, ⟨2, _⟩ => ⟨S512x7168, .i8⟩
  | .local _ .vmem, ⟨3, _⟩ => ⟨S512x7168, .i8⟩
  | .local _ .vmem, ⟨4, _⟩ => ⟨S160x7168, .bf16⟩
  | .local _ .vmem, ⟨5, _⟩ => ⟨S160x3584, .i8⟩
  | .local _ .vmem, ⟨6, _⟩ => ⟨S48x7168, .bf16⟩
  | .local _ .vmem, ⟨7, _⟩ => ⟨S2x80x2x7168, .bf16⟩
  | .local _ .vmem, ⟨8, _⟩ => ⟨S2x80x2x7168, .bf16⟩
  | .local _ .vmem, ⟨9, _⟩ => ⟨S48x7168, .f32⟩
  | _, _ => ⟨S48x1x20480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![20], ![false]⟩

def k0_off1 (i : grid0.Coords) (c0_i32_1 : BitVec 32) : Fin 4 → Nat :=
  let c0 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v5 : Index := Scalar.indexCast v4
  let c0_2 : Index := 0#32
  ![0, v5.toNat, 0, 0]
def k0_off2 (i : grid0.Coords) (c0_i32_6 : BitVec 32) : Fin 4 → Nat :=
  let c1 : Index := 1#32
  let arg0 : BitVec 32 := BitVec.ofNat 32 (i 0).val
  let c4_i32_5 : BitVec 32 := 4#32
  let v21 : BitVec 32 := Scalar.muli arg0 c4_i32_5
  let v22 : BitVec 32 := Scalar.addi v21 c0_i32_6
  let v23 : Index := Scalar.indexCast v22
  let c0_7 : Index := 0#32
  ![1, v23.toNat, 0, 0]
def k0_cond2 (i : grid0.Coords) : BitVec 1 :=
  let arg0 : BitVec 32 := BitVec.ofNat 32 (i 0).val
  let c19_i32 : BitVec 32 := 19#32
  let v5327 : BitVec 1 := Scalar.cmpi .eq arg0 c19_i32
  let v5328 : BitVec 32 := Scalar.extui v5327
  let c0_i32_1100 : BitVec 32 := 0#32
  let v5329 : BitVec 1 := Scalar.cmpi .ne v5328 c0_i32_1100
  v5329

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S48x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x7168 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x3584 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S48x1x20480 : Shape := ⟨3, ![48, 1, 20480]⟩
abbrev S10240x7168 : Shape := ⟨2, ![10240, 7168]⟩
abbrev S160x7168 : Shape := ⟨2, ![160, 7168]⟩
abbrev S160x3584 : Shape := ⟨2, ![160, 3584]⟩
abbrev S_ : Shape := ⟨0, ![]⟩
abbrev S160x3584x1 : Shape := ⟨3, ![160, 3584, 1]⟩
abbrev S160x3584x2 : Shape := ⟨3, ![160, 3584, 2]⟩
abbrev S160x64x7168 : Shape := ⟨3, ![160, 64, 7168]⟩
abbrev S160x1x7168 : Shape := ⟨3, ![160, 1, 7168]⟩
abbrev S48x1x10240 : Shape := ⟨3, ![48, 1, 10240]⟩
abbrev S48x1x7168 : Shape := ⟨3, ![48, 1, 7168]⟩
abbrev S48x7168 : Shape := ⟨2, ![48, 7168]⟩

abbrev nBuf : Space → Nat
  | .hbm => 49
  | .vmem => 0
  | .smem => 0
  | _ => 0

abbrev bufTy : (tb : Table) → Fin (tcTables nBuf tb) → BufTy
  | .hbm, ⟨0, _⟩ => ⟨S48x1x20480, .bf16⟩
  | .hbm, ⟨1, _⟩ => ⟨S10240x7168, .i8⟩
  | .hbm, ⟨2, _⟩ => ⟨S160x7168, .bf16⟩
  | .hbm, ⟨3, _⟩ => ⟨S160x3584, .i8⟩
  | .hbm, ⟨4, _⟩ => ⟨S10240x7168, .i32⟩
  | .hbm, ⟨5, _⟩ => ⟨S160x3584, .i32⟩
  | .hbm, ⟨6, _⟩ => ⟨S_, .i32⟩
  | .hbm, ⟨7, _⟩ => ⟨S10240x7168, .i32⟩
  | .hbm, ⟨8, _⟩ => ⟨S10240x7168, .i32⟩
  | .hbm, ⟨9, _⟩ => ⟨S_, .i32⟩
  | .hbm, ⟨10, _⟩ => ⟨S10240x7168, .i32⟩
  | .hbm, ⟨11, _⟩ => ⟨S10240x7168, .i32⟩
  | .hbm, ⟨12, _⟩ => ⟨S_, .i32⟩
  | .hbm, ⟨13, _⟩ => ⟨S160x3584, .i32⟩
  | .hbm, ⟨14, _⟩ => ⟨S160x3584, .i32⟩
  | .hbm, ⟨15, _⟩ => ⟨S_, .i32⟩
  | .hbm, ⟨16, _⟩ => ⟨S160x3584, .i32⟩
  | .hbm, ⟨17, _⟩ => ⟨S160x3584, .i32⟩
  | .hbm, ⟨18, _⟩ => ⟨S160x3584x1, .i32⟩
  | .hbm, ⟨19, _⟩ => ⟨S160x3584x1, .i32⟩
  | .hbm, ⟨20, _⟩ => ⟨S160x3584x2, .i32⟩
  | .hbm, ⟨21, _⟩ => ⟨S160x7168, .i32⟩
  | .hbm, ⟨22, _⟩ => ⟨S10240x7168, .bf16⟩
  | .hbm, ⟨23, _⟩ => ⟨S160x64x7168, .bf16⟩
  | .hbm, ⟨24, _⟩ => ⟨S160x7168, .bf16⟩
  | .hbm, ⟨25, _⟩ => ⟨S160x1x7168, .bf16⟩
  | .hbm, ⟨26, _⟩ => ⟨S160x64x7168, .bf16⟩
  | .hbm, ⟨27, _⟩ => ⟨S160x64x7168, .bf16⟩
  | .hbm, ⟨28, _⟩ => ⟨S160x1x7168, .bf16⟩
  | .hbm, ⟨29, _⟩ => ⟨S160x64x7168, .bf16⟩
  | .hbm, ⟨30, _⟩ => ⟨S160x64x7168, .bf16⟩
  | .hbm, ⟨31, _⟩ => ⟨S10240x7168, .bf16⟩
  | .hbm, ⟨32, _⟩ => ⟨S10240x7168, .bf16⟩
  | .hbm, ⟨33, _⟩ => ⟨S160x64x7168, .bf16⟩
  | .hbm, ⟨34, _⟩ => ⟨S160x7168, .bf16⟩
  | .hbm, ⟨35, _⟩ => ⟨S160x1x7168, .bf16⟩
  | .hbm, ⟨36, _⟩ => ⟨S160x64x7168, .bf16⟩
  | .hbm, ⟨37, _⟩ => ⟨S160x64x7168, .bf16⟩
  | .hbm, ⟨38, _⟩ => ⟨S160x1x7168, .bf16⟩
  | .hbm, ⟨39, _⟩ => ⟨S160x64x7168, .bf16⟩
  | .hbm, ⟨40, _⟩ => ⟨S160x64x7168, .bf16⟩
  | .hbm, ⟨41, _⟩ => ⟨S10240x7168, .bf16⟩
  | .hbm, ⟨42, _⟩ => ⟨S48x1x10240, .bf16⟩
  | .hbm, ⟨43, _⟩ => ⟨S48x1x10240, .bf16⟩
  | .hbm, ⟨44, _⟩ => ⟨S48x1x7168, .f32⟩
  | .hbm, ⟨45, _⟩ => ⟨S48x1x7168, .f32⟩
  | .hbm, ⟨46, _⟩ => ⟨S48x1x7168, .f32⟩
  | .hbm, ⟨47, _⟩ => ⟨S48x1x7168, .bf16⟩
  | .hbm, ⟨48, _⟩ => ⟨S48x7168, .bf16⟩
  | _, _ => ⟨S48x1x20480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Proof.Tile.lean ====
/-
  The vocabulary of the kernel's body: the eight scale and zero-point rows of a reduction block, the dequantized
  128-row group, and the 256-column tile update, each named as the vector expression the kernel writes, and each read
  at an index over the extended reals.
-/
module

public import proofs.«01_k».proof.Proof.Gen.KernelIdeal
public import Idealize.ShloMosaic.Lib.Pointwise

@[expose] public section

set_option maxRecDepth 16384

noncomputable section

namespace Cert.KernelIdeal.Tile

open Idealize.ShloMosaic Idealize.SL.Sem Cert.KernelIdeal Cert.KernelIdeal.Gen

/-- The low or the high four bits of a packed byte, as the number it stands for: low for an even index. -/
def nib (p : ℕ) (b : BitVec 8) : EReal :=
  if p % 2 = 0 then (((b.setWidth 32 &&& 15#32).toInt : ℝ) : EReal)
  else ((((b.setWidth 32).sshiftRight 4).toInt : ℝ) : EReal)

section Vocabulary

variable {F : FTy → Type} [FloatOps F]

/-- A scratch row (both halves of one packed word row) spread over the 16 rows of a group. -/
def ROW (raw : Vec F S1x1x2x7168 .bf16) : FVec F S16x7168 .bf16 :=
  shapeCast S16x7168 (broadcastTo S8x2x7168 (shapeCast S1x2x7168 (shapeCast S1x2x7168
    (interleaveRows S2x7168
      (shapeCast S1x7168 (shapeCast S1x1x7168 (rowsOfParity 0 S1x1x1x7168 raw bitcasts_S1x1x2x7168_w16_S1x1x1x7168_w32)
        shapeCasts_S1x1x1x7168_S1x1x7168) shapeCasts_S1x1x7168_S1x7168)
      (shapeCast S1x7168 (shapeCast S1x1x7168 (rowsOfParity 1 S1x1x1x7168 raw bitcasts_S1x1x2x7168_w16_S1x1x1x7168_w32)
        shapeCasts_S1x1x1x7168_S1x1x7168) shapeCasts_S1x1x7168_S1x7168)
      bitcasts_S2x7168_w16_S1x7168_w32)
    shapeCasts_S2x7168_S1x2x7168) shapeCasts_S1x2x7168_S1x2x7168) broadcasts_S1x2x7168_S8x2x7168)
    shapeCasts_S8x2x7168_S16x7168

/-- The 128 unpacked codes of 64 packed rows. -/
def CODES (w : Vec F S64x256 .i8) : FVec F S128x256 .bf16 :=
  truncf .bf16 (sitofp (F := F) .f32 (shapeCast S128x256 (concatenate S64x2x256 1
    [⟨S64x1x256, shapeCast S64x1x256 (andi (extui 32 w natLt_8_32 : IVec S64x256 32) (broadcast S64x256 15#32))
        shapeCasts_S64x256_S64x1x256⟩,
     ⟨S64x1x256, shapeCast S64x1x256 (shrsi (extui 32 w natLt_8_32 : IVec S64x256 32) (broadcast S64x256 4#32))
        shapeCasts_S64x256_S64x1x256⟩]
    concatenates_S64x1x256_S64x1x256_S64x2x256_d1) shapeCasts_S64x2x256_S128x256)) bitsLt_bf16_f32

/-- One dequantized group: codes minus zero points, times scales, for the 256 columns from `o` on. -/
def DEQ (o : ℕ) (h : S16x7168.Slices ![0, o] S16x256) (z s : FVec F S16x7168 .bf16) (w : Vec F S64x256 .i8) :
    FVec F S128x256 .bf16 :=
  shapeCast S128x256 (mulf (subf (shapeCast S8x16x256 (CODES w) shapeCasts_S128x256_S8x16x256)
    (broadcastTo S8x16x256 (shapeCast S1x16x256 (extractStridedSlice S16x256 ![0, o] z h) shapeCasts_S16x256_S1x16x256)
      broadcasts_S1x16x256_S8x16x256))
    (broadcastTo S8x16x256 (shapeCast S1x16x256 (extractStridedSlice S16x256 ![0, o] s h) shapeCasts_S16x256_S1x16x256)
      broadcasts_S1x16x256_S8x16x256)) shapeCasts_S8x16x256_S128x256

/-- The eight groups of a block stacked into its 1024 rows. -/
def CAT (p : Fin 8 → FVec F S128x256 .bf16) : FVec F S1024x256 .bf16 :=
  concatenate S1024x256 0 [⟨S128x256, p 0⟩, ⟨S128x256, p 1⟩, ⟨S128x256, p 2⟩, ⟨S128x256, p 3⟩, ⟨S128x256, p 4⟩,
    ⟨S128x256, p 5⟩, ⟨S128x256, p 6⟩, ⟨S128x256, p 7⟩]
    concatenates_S128x256_S128x256_S128x256_S128x256_S128x256_S128x256_S128x256_S128x256_S1024x256_d0

/-- The update of one 256-column tile of the accumulator. -/
def TILE (o : ℕ) (h : S16x7168.Slices ![0, o] S16x256) (z s : Fin 8 → FVec F S16x7168 .bf16)
    (w : Fin 8 → Vec F S64x256 .i8) (x : Vec F S48x1024 .bf16) (acc : Vec F S48x256 .f32) : FVec F S48x256 .f32 :=
  shapeCast S48x256 (addf acc (matmul dot_S48x1024_S1024x256_S48x256_1_0_0_1_n_n none
    (shapeCast S48x1024 x shapeCasts_S48x1024_S48x1024) (CAT fun g => DEQ o h (z g) (s g) (w g))
    (constant S48x256 .f32 0x00000000#32))) shapeCasts_S48x256_S48x256

end Vocabulary

/-- A loaded pair of rows, repeated to sixteen: row `a` is row `a % 2` of the pair. -/
theorem ROW_apply (raw : Vec Ideal S1x1x2x7168 .bf16) (a : Fin 16) (c : Fin 7168) :
    ROW (F := Ideal) raw (ix2 a c) = raw (ix4 0 0 ⟨a.val % 2, by omega⟩ c) := by
  pointwise [ROW]
  rcases Nat.mod_two_eq_zero_or_one a.val with h | h <;> simp [h]

/-- The codes of a packed tile: row `r` is a nibble of byte row `r / 2`. -/
theorem CODES_apply (w : Vec Ideal S64x256 .i8) (r : Fin 128) (c : Fin 256) :
    CODES (F := Ideal) w (ix2 r c) = nib r.val (w (ix2 ⟨r.val / 2, by omega⟩ c)) := by
  have hs : ∀ b : BitVec 32, IntOp.shrsi ArithUnit.vector b 4#32 = b.sshiftRight 4 := fun b => by
    unfold IntOp.shrsi; rw [if_pos (by decide)]; rfl
  have hc : ∀ b : BitVec 32, FloatOps.sitofp (F := Ideal) .f32 b = ((b.toInt : ℝ) : EReal) := fun _ => rfl
  pointwise [CODES, nib]
  rw [hc]
  split <;> split <;> first | omega | rfl | rw [hs]

/-- One group's dequantized weights, element by element. -/
theorem DEQ_apply (o : ℕ) (h : S16x7168.Slices ![0, o] S16x256) (ho : o + 256 ≤ 7168)
    (z s : FVec Ideal S16x7168 .bf16) (w : Vec Ideal S64x256 .i8) (r : Fin 128) (c : Fin 256) :
    DEQ (F := Ideal) o h z s w (ix2 r c)
      = (CODES (F := Ideal) w (ix2 r c) - z (ix2 ⟨r.val % 16, by omega⟩ ⟨o + c.val, by omega⟩))
        * s (ix2 ⟨r.val % 16, by omega⟩ ⟨o + c.val, by omega⟩) := by
  pointwise [DEQ]

/-- Eight groups one under the other: row `k` is row `k % 128` of group `k / 128`. -/
theorem CAT_apply (p : Fin 8 → FVec Ideal S128x256 .bf16) (k : Fin 1024) (c : Fin 256) :
    CAT (F := Ideal) p (ix2 k c) = p ⟨k.val / 128, by omega⟩ (ix2 ⟨k.val % 128, by omega⟩ c) := by
  show concatenate S1024x256 0 (List.ofFn fun n : Fin 8 => (⟨S128x256, p n⟩ : (s : Shape) × (s.Idx → Ideal .bf16))) _ _ = _
  refine concatenate_ofFn_apply (t := S1024x256) (s₁ := S128x256) 0 p _ rfl 128 rfl (ix2 k c) ⟨k.val / 128, by omega⟩ rfl
    (ix2 ⟨k.val % 128, by omega⟩ c) rfl (fun b hb => ?_)
  match b, hb with
  | ⟨0, _⟩, hb => exact absurd rfl hb
  | ⟨1, _⟩, _ => rfl

/-- A tile at an index: the accumulator plus the block's dot product with the dequantized column. -/
theorem TILE_apply (o : ℕ) (h : S16x7168.Slices ![0, o] S16x256) (ho : o + 256 ≤ 7168)
    (z s : Fin 8 → FVec Ideal S16x7168 .bf16)
    (w : Fin 8 → Vec Ideal S64x256 .i8) (x : Vec Ideal S48x1024 .bf16) (acc : Vec Ideal S48x256 .f32)
    (r : Fin 48) (c : Fin 256) :
    TILE (F := Ideal) o h z s w x acc (ix2 r c) = acc (ix2 r c) + ∑ k : Fin 1024, x (ix2 r k) *
      ((nib k.val (w ⟨k.val / 128, by omega⟩ (ix2 ⟨k.val % 128 / 2, by omega⟩ c))
          - z ⟨k.val / 128, by omega⟩ (ix2 ⟨k.val % 16, by omega⟩ ⟨o + c.val, by omega⟩))
        * s ⟨k.val / 128, by omega⟩ (ix2 ⟨k.val % 16, by omega⟩ ⟨o + c.val, by omega⟩)) := by
  pointwise [TILE]
  refine congrArg (acc (ix2 r c) + ·) (Finset.sum_congr rfl fun k _ => congrArg (x (ix2 r k) * ·) ?_)
  rw [CAT_apply, DEQ_apply o h ho, CODES_apply]
  have e1 : k.val % 128 % 16 = k.val % 16 := by omega
  have e2 : nib (k.val % 128) = nib k.val := by funext b; unfold nib; rw [show k.val % 128 % 2 = k.val % 2 by omega]
  simp only [e1, e2]

end Cert.KernelIdeal.Tile
-- ==== Proof.Terms.lean ====
/-
  The terms of one output element: the activation at input row `R` times the dequantized weight there. A sum over an even
  number of rows splits into the even rows and the odd rows.
-/
module

public import proofs.«01_k».proof.Proof.Tile

@[expose] public section

noncomputable section

namespace Cert.KernelIdeal.Tile

open Idealize.ShloMosaic Idealize.SL.Sem Cert.KernelIdeal Cert.KernelIdeal.Gen

/-- Term `R` of output element `(r, c)`: `x[r, R] · (code − zero point) · scale`, the code the nibble `R % 2` of packed
    row `R / 2`, the zero point the nibble `c % 2` of byte `c / 2` of group `R / 128`. -/
def term (x : Vec Ideal S48x1x20480 .bf16) (w : Vec Ideal S10240x7168 .i8) (s : Vec Ideal S160x7168 .bf16)
    (z : Vec Ideal S160x3584 .i8) (r : Fin 48) (c : Fin 7168) (R : ℕ) : EReal :=
  x (ix3 r 0 ⟨R % 20480, Nat.mod_lt _ (by decide)⟩) *
    ((nib R (w (ix2 ⟨R / 2 % 10240, Nat.mod_lt _ (by decide)⟩ c))
        - nib c.val (z (ix2 ⟨R / 128 % 160, Nat.mod_lt _ (by decide)⟩ ⟨c.val / 2, by omega⟩)))
      * s (ix2 ⟨R / 128 % 160, Nat.mod_lt _ (by decide)⟩ c))

/-- The sum over `2 n` rows is the sum over the even rows plus the sum over the odd rows. -/
theorem sum_even_odd (f : ℕ → EReal) (n : ℕ) :
    ∑ R ∈ Finset.range (2 * n), f R = ∑ k ∈ Finset.range n, f (2 * k) + ∑ k ∈ Finset.range n, f (2 * k + 1) := by
  induction n with
  | zero => simp
  | succ n ih =>
    rw [show 2 * (n + 1) = 2 * n + 1 + 1 by omega, Finset.sum_range_succ, Finset.sum_range_succ, ih,
      Finset.sum_range_succ, Finset.sum_range_succ, add_assoc, add_add_add_comm]

/-- Only the parity of the position chooses the nibble. -/
theorem nib_congr {p q : ℕ} (h : p % 2 = q % 2) (b : BitVec 8) : nib p b = nib q b := by
  unfold nib; rw [h]

end Cert.KernelIdeal.Tile
-- ==== Proof.Fill.lean ====
/-
  What the first grid point writes into the two scratch arrays: the permutation matrix that interleaves the two nibble
  halves, the unpacked zero points it reorders, and the stored slices, each read at an index over the extended reals.
-/
module

public import proofs.«01_k».proof.Proof.Tile
public import proofs.«01_k».proof.Proof.Gen.KernelIdeal.Skeleton

@[expose] public section

set_option maxRecDepth 16384

noncomputable section

namespace Cert.KernelIdeal.Tile

open Idealize.ShloMosaic Idealize.SL.Sem Cert.KernelIdeal Cert.KernelIdeal.Gen

section Vocabulary

variable {F : FTy → Type} [FloatOps F]

/-- The permutation matrix of the first grid point. -/
def PERM : FVec F S256x256 .bf16 :=
  k0_pay8 (F := F) (iota .tc S256x256 32 [1] iota_S256x256_d1_w32) k0_pay3 k0_pay4 k0_pay5 k0_pay6 k0_pay7

/-- The zero points of 128 packed bytes per group, reordered into 256 columns. -/
def ZF (zb : Vec F S160x128 .i8) : FVec F S160x256 .bf16 :=
  truncf .bf16 (matmul dot_S160x256_S256x256_S160x256_1_0_0_1_n_n none
    (truncf .bf16 (sitofp (F := F) .f32 (concatenate S160x256 1
      [⟨S160x128, andi (extui 32 zb natLt_8_32 : IVec S160x128 32) (broadcast S160x128 15#32)⟩,
       ⟨S160x128, shrsi (extui 32 zb natLt_8_32 : IVec S160x128 32) (broadcast S160x128 4#32)⟩]
      concatenates_S160x128_S160x128_S160x256_d1)) bitsLt_bf16_f32)
    PERM (constant S160x256 .f32 0x00000000#32)) bitsLt_bf16_f32

/-- A stored slice: the rows of parity 0, each written to both halves of its word row. -/
def PAIR0 (v : FVec F S160x256 .bf16) : Vec F S1x80x2x256 .bf16 :=
  interleaveRows S1x80x2x256
    (shapeCast S1x80x1x256 (shapeCast S1x80x256 (rowsOfParity 0 S80x256 v bitcasts_S160x256_w16_S80x256_w32)
      shapeCasts_S80x256_S1x80x256) shapeCasts_S1x80x256_S1x80x1x256)
    (shapeCast S1x80x1x256 (shapeCast S1x80x256 (rowsOfParity 0 S80x256 v bitcasts_S160x256_w16_S80x256_w32)
      shapeCasts_S80x256_S1x80x256) shapeCasts_S1x80x256_S1x80x1x256)
    bitcasts_S1x80x2x256_w16_S1x80x1x256_w32

/-- A stored slice: the rows of parity 1, each written to both halves of its word row. -/
def PAIR1 (v : FVec F S160x256 .bf16) : Vec F S1x80x2x256 .bf16 :=
  interleaveRows S1x80x2x256
    (shapeCast S1x80x1x256 (shapeCast S1x80x256 (rowsOfParity 1 S80x256 v bitcasts_S160x256_w16_S80x256_w32)
      shapeCasts_S80x256_S1x80x256) shapeCasts_S1x80x256_S1x80x1x256)
    (shapeCast S1x80x1x256 (shapeCast S1x80x256 (rowsOfParity 1 S80x256 v bitcasts_S160x256_w16_S80x256_w32)
      shapeCasts_S80x256_S1x80x256) shapeCasts_S1x80x256_S1x80x1x256)
    bitcasts_S1x80x2x256_w16_S1x80x1x256_w32

end Vocabulary

/-- The even half of a word array: both rows of pair `r` are row `2 r`. -/
theorem PAIR0_apply (v : FVec Ideal S160x256 .bf16) (r : Fin 80) (h : Fin 2) (c : Fin 256) :
    PAIR0 (F := Ideal) v (ix4 0 r h c) = v (ix2 ⟨2 * r.val, by omega⟩ c) := by
  pointwise [PAIR0]
  exact ite_self _

/-- The odd half of a word array: both rows of pair `r` are row `2 r + 1`. -/
theorem PAIR1_apply (v : FVec Ideal S160x256 .bf16) (r : Fin 80) (h : Fin 2) (c : Fin 256) :
    PAIR1 (F := Ideal) v (ix4 0 r h c) = v (ix2 ⟨2 * r.val + 1, by omega⟩ c) := by
  pointwise [PAIR1]
  exact ite_self _

/-- The word `k % 128`, as the kernel's floored remainder computes it. -/
theorem perm_mod : ∀ k : Fin 256, (Scalar.select (IntOp.andi
      (IntOp.xori (IntOp.cmpi CmpIPredicate.slt (IntOp.remsi ArithUnit.vector (BitVec.ofNat 32 k.val) (Scalar.select (Scalar.cmpi CmpIPredicate.eq 128#32 0#32) 1#32 128#32)) 0#32) (Scalar.cmpi CmpIPredicate.slt (Scalar.select (Scalar.cmpi CmpIPredicate.eq 128#32 0#32) 1#32 128#32) 0#32))
      (IntOp.cmpi CmpIPredicate.ne (IntOp.remsi ArithUnit.vector (BitVec.ofNat 32 k.val) (Scalar.select (Scalar.cmpi CmpIPredicate.eq 128#32 0#32) 1#32 128#32)) 0#32))
    (IntOp.addi (IntOp.remsi ArithUnit.vector (BitVec.ofNat 32 k.val) (Scalar.select (Scalar.cmpi CmpIPredicate.eq 128#32 0#32) 1#32 128#32)) (Scalar.select (Scalar.cmpi CmpIPredicate.eq 128#32 0#32) 1#32 128#32))
    (IntOp.remsi ArithUnit.vector (BitVec.ofNat 32 k.val) (Scalar.select (Scalar.cmpi CmpIPredicate.eq 128#32 0#32) 1#32 128#32)))
    = BitVec.ofNat 32 (k.val % 128) := by decide +kernel

/-- The word `k / 128`, as the kernel's floored division computes it. -/
theorem perm_div : ∀ k : Fin 256, (Scalar.select (IntOp.andi
      (IntOp.cmpi CmpIPredicate.ne
        (IntOp.subi (BitVec.setWidth 32 (IntOp.cmpi CmpIPredicate.sgt (BitVec.ofNat 32 k.val) 0#32))
          (BitVec.setWidth 32 (IntOp.cmpi CmpIPredicate.slt (BitVec.ofNat 32 k.val) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 k.val) 128#32) 0#32))
    (IntOp.subi (IntOp.divsi ArithUnit.vector (BitVec.ofNat 32 k.val) 128#32) 1#32)
    (IntOp.divsi ArithUnit.vector (BitVec.ofNat 32 k.val) 128#32))
    = BitVec.ofNat 32 (k.val / 128) := by decide +kernel

/-- The permutation matrix: one where the column is the row's place after interleaving, zero elsewhere. -/
theorem PERM_apply (k c : Fin 256) :
    PERM (F := Ideal) (ix2 k c) = if c.val = 2 * (k.val % 128) + k.val / 128 then 1 else 0 := by
  pointwise [PERM, k0_pay8, k0_pay3, k0_pay4, k0_pay5, k0_pay6, k0_pay7]
  rw [perm_mod, perm_div]
  have e : IntOp.addi (IntOp.muli (2#32) (BitVec.ofNat 32 (k.val % 128))) (BitVec.ofNat 32 (k.val / 128))
      = BitVec.ofNat 32 (2 * (k.val % 128) + k.val / 128) := by
    unfold IntOp.addi IntOp.muli
    apply BitVec.eq_of_toNat_eq
    simp
  rw [e]
  have hk : 2 * (k.val % 128) + k.val / 128 < 256 := by omega
  by_cases h : c.val = 2 * (k.val % 128) + k.val / 128
  · rw [if_pos h, h]; simp [IntOp.cmpi, Scalar.select]
  · rw [if_neg h]
    have hne : BitVec.ofNat 32 c.val ≠ BitVec.ofNat 32 (2 * (k.val % 128) + k.val / 128) := by
      intro he
      have := congrArg BitVec.toNat he
      simp only [BitVec.toNat_ofNat] at this
      omega
    have hb : (BitVec.ofNat 32 c.val == BitVec.ofNat 32 (2 * (k.val % 128) + k.val / 128)) = false := by simpa using hne
    simp [IntOp.cmpi, Scalar.select, hb]

/-- The reordered zero points: column `c` holds nibble `c % 2` of byte `c / 2`. -/
theorem ZF_apply (zb : Vec Ideal S160x128 .i8) (r : Fin 160) (c : Fin 256) :
    ZF (F := Ideal) zb (ix2 r c) = nib c.val (zb (ix2 r ⟨c.val / 2, by omega⟩)) := by
  have hs : ∀ b : BitVec 32, IntOp.shrsi ArithUnit.vector b 4#32 = b.sshiftRight 4 := fun b => by
    unfold IntOp.shrsi; rw [if_pos (by decide)]; rfl
  have hc : ∀ b : BitVec 32, FloatOps.sitofp (F := Ideal) .f32 b = ((b.toInt : ℝ) : EReal) := fun _ => rfl
  pointwise [ZF]
  simp only [PERM_apply, hc, hs, mul_ite, mul_one, mul_zero]
  rcases Nat.mod_two_eq_zero_or_one c.val with h | h
  · rw [Finset.sum_eq_single (⟨c.val / 2, by omega⟩ : Fin 128), Finset.sum_eq_zero, if_pos (by dsimp only; omega), add_zero]
    · unfold nib; rw [if_pos h]; rfl
    · intro x _; rw [if_neg (by omega)]
    · intro x _ hx
      rw [if_neg]
      intro h'; apply hx; apply Fin.ext; dsimp only at h' ⊢; omega
    · intro h'; exact absurd (Finset.mem_univ _) h'
  · rw [Finset.sum_eq_zero, Finset.sum_eq_single (⟨c.val / 2, by omega⟩ : Fin 128), if_pos (by dsimp only; omega), zero_add]
    · unfold nib; rw [if_neg (by omega)]
    · intro x _ hx
      rw [if_neg]
      intro h'; apply hx; apply Fin.ext; dsimp only at h' ⊢; omega
    · intro h'; exact absurd (Finset.mem_univ _) h'
    · intro x _; rw [if_neg (by omega)]

end Cert.KernelIdeal.Tile
-- ==== Proof.Pieces.lean ====
/-
  The accumulator's stores, as a list of tiles: what each store's payload is over the loads of its tile.
-/
module

public import proofs.«01_k».proof.Proof.Fill

@[expose] public section

set_option maxRecDepth 16384

noncomputable section

namespace Cert.KernelIdeal.Tile

open Idealize.ShloMosaic Idealize.SL.Sem Cert.KernelIdeal Cert.KernelIdeal.Gen

variable {F : FTy → Type} [FloatOps F]

/-- Tile `n` of a row lies within the row. -/
theorem slices_at (n : ℕ) (h : n < 28) : S16x7168.Slices ![0, 256 * n] S16x256 :=
  ⟨rfl, fun a => match a with
    | ⟨0, _⟩ => by show 0 + 16 ≤ 16; omega
    | ⟨1, _⟩ => by show 256 * n + 256 ≤ 7168; omega⟩

/-- Tile `n` of the accumulator lies within it. -/
theorem inb_acc (n : ℕ) (h : n < 28) : ∀ a, (![0, 256 * n] : Fin 2 → Nat) a + S48x256.size a ≤ S48x7168.size a :=
  fun a => match a with
    | ⟨0, _⟩ => by show 0 + 48 ≤ 48; omega
    | ⟨1, _⟩ => by show 256 * n + 256 ≤ 7168; omega

/-- Group `g` of tile `n` lies within the block of packed codes. -/
theorem inb_w (n : ℕ) (h : n < 28) (g : Fin 8) :
    ∀ a, (![64 * g.val, 256 * n] : Fin 2 → Nat) a + S64x256.size a ≤ S512x7168.size a :=
  fun a => match a with
    | ⟨0, _⟩ => by show 64 * g.val + 64 ≤ 512; omega
    | ⟨1, _⟩ => by show 256 * n + 256 ≤ 7168; omega

/-- The accumulator tile `n`'s rectangle. -/
abbrev accRect (n : ℕ) (h : n < 28) : Rect S48x7168 := Rect.unit ![0, 256 * n] S48x256.size (inb_acc n h)

/-- The packed rows of group `g` under tile `n`. -/
abbrev wRect (n : ℕ) (h : n < 28) (g : Fin 8) : Rect S512x7168 := Rect.unit ![64 * g.val, 256 * n] S64x256.size (inb_w n h g)

/-- The store of tile `n`, over the scratch rows `zr`, `sr`, the packed block `w`, the row block `x` and what the tile's
    load of the accumulator read. -/
def PIECE (zr sr : Fin 8 → Vec F S1x1x2x7168 .bf16) (w : (r : Rect S512x7168) → r.shape.Idx → Elt F .i8)
    (x : Vec F S48x1024 .bf16) (n : ℕ) (h : n < 28) (acc : Vec F S48x256 .f32) : View.Piece (Elt F) S48x7168 .f32 :=
  ⟨accRect n h, TILE (256 * n) (slices_at n h) (fun g => ROW (zr g)) (fun g => ROW (sr g)) (fun g => w (wRect n h g)) x acc⟩

/-- The stores of the first `n` tiles, last first, each tile's load reading `acc`. -/
def PL (zr sr : Fin 8 → Vec F S1x1x2x7168 .bf16) (w : (r : Rect S512x7168) → r.shape.Idx → Elt F .i8)
    (x : Vec F S48x1024 .bf16) (acc : (r : Rect S48x7168) → r.shape.Idx → Elt F .f32) :
    (n : ℕ) → n ≤ 28 → List (View.Piece (Elt F) S48x7168 .f32)
  | 0, _ => []
  | n + 1, h => PIECE zr sr w x n h (acc (accRect n h)) :: PL zr sr w x acc n (Nat.le_of_succ_le h)

/-- The scratch rows one grid point loads: group `g` reads half `g % 2` of the scratch at row `4 t + g / 2`. -/
def rows (i : grid0.Coords) (ld : (r : Rect S2x80x2x7168) → r.shape.Idx → Elt F .bf16) : Fin 8 → Vec F S1x1x2x7168 .bf16 :=
  ![ld (Rect.unit (s := S2x80x2x7168) (k0_off1 i 0#32) S1x1x2x7168.size (k0_off1_inb i 0)),
    ld (Rect.unit (s := S2x80x2x7168) (k0_off2 i 0#32) S1x1x2x7168.size (k0_off2_inb i 0)),
    ld (Rect.unit (s := S2x80x2x7168) (k0_off1 i 1#32) S1x1x2x7168.size (k0_off1_inb i 1)),
    ld (Rect.unit (s := S2x80x2x7168) (k0_off2 i 1#32) S1x1x2x7168.size (k0_off2_inb i 1)),
    ld (Rect.unit (s := S2x80x2x7168) (k0_off1 i 2#32) S1x1x2x7168.size (k0_off1_inb i 2)),
    ld (Rect.unit (s := S2x80x2x7168) (k0_off2 i 2#32) S1x1x2x7168.size (k0_off2_inb i 2)),
    ld (Rect.unit (s := S2x80x2x7168) (k0_off1 i 3#32) S1x1x2x7168.size (k0_off1_inb i 3)),
    ld (Rect.unit (s := S2x80x2x7168) (k0_off2 i 3#32) S1x1x2x7168.size (k0_off2_inb i 3))]

/-- Half `p` of tile `n` lies within the scratch array. -/
theorem inb_pair (p : ℕ) (hp : p < 2) (n : ℕ) (h : n < 28) :
    ∀ a, (![p, 0, 0, 256 * n] : Fin 4 → Nat) a + S1x80x2x256.size a ≤ S2x80x2x7168.size a :=
  fun a => match a with
    | ⟨0, _⟩ => by show p + 1 ≤ 2; omega
    | ⟨1, _⟩ => by show 0 + 80 ≤ 80; omega
    | ⟨2, _⟩ => by show 0 + 2 ≤ 2; omega
    | ⟨3, _⟩ => by show 256 * n + 256 ≤ 7168; omega

/-- Tile `n` of the scales lies within them. -/
theorem inb_scale (n : ℕ) (h : n < 28) : ∀ a, (![0, 256 * n] : Fin 2 → Nat) a + S160x256.size a ≤ S160x7168.size a :=
  fun a => match a with
    | ⟨0, _⟩ => by show 0 + 160 ≤ 160; omega
    | ⟨1, _⟩ => by show 256 * n + 256 ≤ 7168; omega

/-- Tile `n` of the packed zero points lies within them. -/
theorem inb_zero (n : ℕ) (h : n < 28) : ∀ a, (![0, 128 * n] : Fin 2 → Nat) a + S160x128.size a ≤ S160x3584.size a :=
  fun a => match a with
    | ⟨0, _⟩ => by show 0 + 160 ≤ 160; omega
    | ⟨1, _⟩ => by show 128 * n + 128 ≤ 3584; omega

/-- The rectangle of parity `p` under tile `n` of a scratch array. -/
abbrev pairRect (p : ℕ) (hp : p < 2) (n : ℕ) (h : n < 28) : Rect S2x80x2x7168 :=
  Rect.unit ![p, 0, 0, 256 * n] S1x80x2x256.size (inb_pair p hp n h)

/-- The first point's stores into a scratch array, last first, over the slice `v n` it stores for tile `n`. -/
def PAIRS (v : (n : ℕ) → n < 28 → FVec F S160x256 .bf16) : (n : ℕ) → n ≤ 28 → List (View.Piece (Elt F) S2x80x2x7168 .bf16)
  | 0, _ => []
  | n + 1, h => ⟨pairRect 1 (by omega) n h, PAIR1 (v n h)⟩ :: ⟨pairRect 0 (by omega) n h, PAIR0 (v n h)⟩
      :: PAIRS v n (Nat.le_of_succ_le h)

/-- The slice of scales of tile `n`. -/
def SLICE (ld : (r : Rect S160x7168) → r.shape.Idx → Elt F .bf16) (n : ℕ) (h : n < 28) : FVec F S160x256 .bf16 :=
  ld (Rect.unit ![0, 256 * n] S160x256.size (inb_scale n h))

/-- The slice of zero points of tile `n`. -/
def ZSLICE (ld : (r : Rect S160x3584) → r.shape.Idx → Elt F .i8) (n : ℕ) (h : n < 28) : FVec F S160x256 .bf16 :=
  ZF (ld (Rect.unit ![0, 128 * n] S160x128.size (inb_zero n h)))

/-- The first point's stores into the accumulator, last first: the zero fill, then the tiles, each tile's load reading
    the stores before it. -/
def PLA (zr sr : Fin 8 → Vec F S1x1x2x7168 .bf16) (w : (r : Rect S512x7168) → r.shape.Idx → Elt F .i8)
    (x : Vec F S48x1024 .bf16) (v : View sig .tc .vmem S48x7168 .f32) :
    (n : ℕ) → n ≤ 28 → List (View.Piece (Elt F) S48x7168 .f32)
  | 0, _ => [⟨Rect.unit (s := S48x7168) ![0, 0] S48x7168.size inb_S48x7168_S48x7168_0_0, k0_pay2 (F := F)⟩]
  | n + 1, h => PIECE zr sr w x n h (v.readCov (PLA zr sr w x v n (Nat.le_of_succ_le h)) (accRect n h).toLoadRect)
      :: PLA zr sr w x v n (Nat.le_of_succ_le h)

end Cert.KernelIdeal.Tile
-- ==== Proof.Values.lean ====
/-
  The stores of one grid point read at an index over the extended reals: the accumulator gains the block's dot product
  with the dequantized column; the scratch arrays hold the zero points and the scales of every group.
-/
module

public import proofs.«01_k».proof.Proof.Pieces
public import Idealize.ShloMosaic.Lib.Pipeline.ValueKit

@[expose] public section

set_option maxRecDepth 16384

noncomputable section

namespace Cert.KernelIdeal.Tile

open Idealize.ShloMosaic Idealize.SL.Sem Cert.KernelIdeal Cert.KernelIdeal.Gen

/-- The block's dot product with the dequantized column, over the scratch rows of the block. -/
def dotRows (zr sr : Fin 8 → Vec Ideal S1x1x2x7168 .bf16) (wv : Vec Ideal S512x7168 .i8) (x : Vec Ideal S48x1024 .bf16)
    (r : Fin 48) (c : Fin 7168) : EReal :=
  ∑ k : Fin 1024, x (ix2 r k) *
    ((nib k.val (wv (ix2 ⟨k.val / 2, by omega⟩ c))
        - zr ⟨k.val / 128, by omega⟩ (ix4 0 0 ⟨k.val % 2, by omega⟩ c))
      * sr ⟨k.val / 128, by omega⟩ (ix4 0 0 ⟨k.val % 2, by omega⟩ c))

/-- A tile's payload at an index. -/
theorem PIECE_apply (zr sr : Fin 8 → Vec Ideal S1x1x2x7168 .bf16) (wv : Vec Ideal S512x7168 .i8) (x : Vec Ideal S48x1024 .bf16)
    (n : ℕ) (h : n < 28) (acc : Vec Ideal S48x256 .f32) (r : Fin 48) (c : Fin 256) :
    (PIECE (F := Ideal) zr sr (fun r => View.ld wv r) x n h acc).2 (ix2 r c)
      = acc (ix2 r c) + dotRows zr sr wv x r ⟨256 * n + c.val, by omega⟩ := by
  show TILE (F := Ideal) _ _ _ _ _ _ _ (ix2 r c) = _
  rw [TILE_apply _ _ (by omega)]
  refine congrArg (acc (ix2 r c) + ·) (Finset.sum_congr rfl fun k _ => congrArg (x (ix2 r k) * ·) ?_)
  rw [ROW_apply, ROW_apply]
  have e1 : k.val % 16 % 2 = k.val % 2 := by omega
  have e2 : View.ld wv (wRect n h ⟨k.val / 128, by omega⟩) (ix2 ⟨k.val % 128 / 2, by omega⟩ c)
      = wv (ix2 ⟨k.val / 2, by omega⟩ ⟨256 * n + c.val, by omega⟩) :=
    View.ld_unit_apply_of _ _ _ _ _ _ fun a => match a with
      | ⟨0, _⟩ => by show k.val / 2 = 64 * (k.val / 128) + k.val % 128 / 2; omega
      | ⟨1, _⟩ => rfl
  simp only [e1]
  rw [← e2]

/-- A column lies in tile `n` exactly when it is between `256 n` and `256 n + 255`. -/
theorem mem_accRect (n : ℕ) (h : n < 28) (r : Fin 48) (c : Fin 7168) :
    (ix2 r c : S48x7168.Idx) ∈ (accRect n h).set ↔ 256 * n ≤ c.val ∧ c.val < 256 * n + 256 := by
  rw [Rect.mem_set_unit]
  constructor
  · intro hh; exact hh 1
  · intro hh a
    match a with
    | ⟨0, _⟩ => exact ⟨Nat.zero_le _, by show r.val < 0 + 48; omega⟩
    | ⟨1, _⟩ => exact hh

/-- The place within tile `n` of an element of the accumulator. -/
theorem emb_accRect (n : ℕ) (h : n < 28) (r : Fin 48) (c : Fin 7168) (h1 : 256 * n ≤ c.val) (h2 : c.val < 256 * n + 256) :
    (accRect n h).emb (ix2 r (⟨c.val - 256 * n, by omega⟩ : Fin 256)) = (ix2 r c : S48x7168.Idx) := by
  funext a
  match a with
  | ⟨0, _⟩ => apply Fin.ext; show 0 + 1 * r.val = r.val; omega
  | ⟨1, _⟩ => apply Fin.ext; show 256 * n + 1 * (c.val - 256 * n) = c.val; omega

/-- The tiles, read at a column one of them holds. -/
theorem canon_PL (zr sr : Fin 8 → Vec Ideal S1x1x2x7168 .bf16) (wv : Vec Ideal S512x7168 .i8) (x : Vec Ideal S48x1024 .bf16)
    (av : Vec Ideal S48x7168 .f32) (r : Fin 48) (c : Fin 7168) :
    ∀ (n : ℕ) (h : n ≤ 28), c.val < 256 * n →
      View.canon (PL (F := Ideal) zr sr (fun r => View.ld wv r) x (fun r => View.ld av r) n h) (ix2 r c)
        = av (ix2 r c) + dotRows zr sr wv x r c
  | 0, _, hc => absurd hc (Nat.not_lt_zero _)
  | n + 1, h, hc => by
    by_cases hn : c.val < 256 * n
    · rw [PL, View.canon_cons_of_not_mem]
      · exact canon_PL zr sr wv x av r c n _ hn
      · show (ix2 r c : S48x7168.Idx) ∉ (accRect n h).set
        rw [mem_accRect]; omega
    · have h1 : 256 * n ≤ c.val := by omega
      have h2 : c.val < 256 * n + 256 := by omega
      rw [PL, ← emb_accRect n h r c h1 h2]
      refine (View.canon_cons_emb (accRect n h) _ _ _).trans ?_
      refine (PIECE_apply zr sr wv x n h _ r _).trans ?_
      have e : (⟨256 * n + (c.val - 256 * n), by omega⟩ : Fin 7168) = c := Fin.ext (by show 256 * n + (c.val - 256 * n) = c.val; omega)
      rw [e, emb_accRect n h r c h1 h2]
      refine congrArg (· + dotRows zr sr wv x r c) ?_
      exact View.ld_unit_apply_of _ _ _ _ _ _ fun a => match a with
        | ⟨0, _⟩ => by show r.val = 0 + r.val; omega
        | ⟨1, _⟩ => by show c.val = 256 * n + (c.val - 256 * n); omega

/-- The zero fill leaves zero everywhere. -/
theorem canon_fill (y : S48x7168.Idx) :
    View.canon [(⟨Rect.unit (s := S48x7168) ![0, 0] S48x7168.size inb_S48x7168_S48x7168_0_0, k0_pay2 (F := Ideal)⟩ :
      View.Piece (Elt Ideal) S48x7168 .f32)] y = 0 := by
  rw [View.canon_cons_unit_lit' inb_S48x7168_S48x7168_0_0 _ _ (by decide)]
  unfold k0_pay2
  rw [eq_ix2 y]
  pointwise

/-- The first point's stores, read at a column no tile has reached: the zero fill. -/
theorem canon_PLA_ge (zr sr : Fin 8 → Vec Ideal S1x1x2x7168 .bf16) (wv : Vec Ideal S512x7168 .i8) (x : Vec Ideal S48x1024 .bf16)
    (v : View sig .tc .vmem S48x7168 .f32) (r : Fin 48) (c : Fin 7168) :
    ∀ (n : ℕ) (h : n ≤ 28), 256 * n ≤ c.val →
      View.canon (PLA (F := Ideal) zr sr (fun r => View.ld wv r) x v n h) (ix2 r c) = 0
  | 0, _, _ => by rw [PLA]; exact canon_fill _
  | n + 1, h, hc => by
    rw [PLA, View.canon_cons_of_not_mem]
    · exact canon_PLA_ge zr sr wv x v r c n _ (by omega)
    · show (ix2 r c : S48x7168.Idx) ∉ (accRect n h).set
      rw [mem_accRect]; omega

/-- The first point's stores, read at a column one of the tiles holds. -/
theorem canon_PLA (zr sr : Fin 8 → Vec Ideal S1x1x2x7168 .bf16) (wv : Vec Ideal S512x7168 .i8) (x : Vec Ideal S48x1024 .bf16)
    (v : View sig .tc .vmem S48x7168 .f32) (r : Fin 48) (c : Fin 7168) :
    ∀ (n : ℕ) (h : n ≤ 28), c.val < 256 * n →
      View.canon (PLA (F := Ideal) zr sr (fun r => View.ld wv r) x v n h) (ix2 r c)
        = 0 + dotRows zr sr wv x r c
  | 0, _, hc => absurd hc (Nat.not_lt_zero _)
  | n + 1, h, hc => by
    by_cases hn : c.val < 256 * n
    · rw [PLA, View.canon_cons_of_not_mem]
      · exact canon_PLA zr sr wv x v r c n _ hn
      · show (ix2 r c : S48x7168.Idx) ∉ (accRect n h).set
        rw [mem_accRect]; omega
    · have h1 : 256 * n ≤ c.val := by omega
      have h2 : c.val < 256 * n + 256 := by omega
      rw [PLA, ← emb_accRect n h r c h1 h2]
      refine (View.canon_cons_emb (accRect n h) _ _ _).trans ?_
      refine (PIECE_apply zr sr wv x n h _ r _).trans ?_
      have e : (⟨256 * n + (c.val - 256 * n), by omega⟩ : Fin 7168) = c := Fin.ext (by show 256 * n + (c.val - 256 * n) = c.val; omega)
      rw [e]
      refine congrArg (· + dotRows zr sr wv x r c) ?_
      rw [View.readCov_eq_canon']
      refine (congrArg (View.canon _) (emb_accRect n h r c h1 h2)).trans ?_
      exact canon_PLA_ge zr sr wv x v r c n _ h1

/-- Which elements of the scratch array half `p` of tile `n` covers. -/
theorem mem_pairRect (p : ℕ) (hp : p < 2) (n : ℕ) (h : n < 28) (q : Fin 2) (r : Fin 80) (a : Fin 2) (c : Fin 7168) :
    (ix4 q r a c : S2x80x2x7168.Idx) ∈ (pairRect p hp n h).set ↔ q.val = p ∧ 256 * n ≤ c.val ∧ c.val < 256 * n + 256 := by
  rw [Rect.mem_set_unit]
  constructor
  · intro hh
    have h0 : p ≤ q.val ∧ q.val < p + 1 := hh 0
    exact ⟨by omega, hh 3⟩
  · intro hh b
    match b with
    | ⟨0, _⟩ => exact ⟨by show p ≤ q.val; omega, by show q.val < p + 1; omega⟩
    | ⟨1, _⟩ => exact ⟨Nat.zero_le _, by show r.val < 0 + 80; omega⟩
    | ⟨2, _⟩ => exact ⟨Nat.zero_le _, by show a.val < 0 + 2; omega⟩
    | ⟨3, _⟩ => exact hh.2

/-- The place within its tile of an element of the scratch array. -/
theorem emb_pairRect (q : Fin 2) (n : ℕ) (h : n < 28) (r : Fin 80) (a : Fin 2) (c : Fin 7168)
    (h1 : 256 * n ≤ c.val) (h2 : c.val < 256 * n + 256) :
    (pairRect q.val q.isLt n h).emb (ix4 (0 : Fin 1) r a (⟨c.val - 256 * n, by omega⟩ : Fin 256)) = (ix4 q r a c : S2x80x2x7168.Idx) := by
  funext b
  match b with
  | ⟨0, _⟩ => apply Fin.ext; show q.val + 1 * 0 = q.val; omega
  | ⟨1, _⟩ => apply Fin.ext; show 0 + 1 * r.val = r.val; omega
  | ⟨2, _⟩ => apply Fin.ext; show 0 + 1 * a.val = a.val; omega
  | ⟨3, _⟩ => apply Fin.ext; show 256 * n + 1 * (c.val - 256 * n) = c.val; omega

/-- A scratch array after the first point's stores: half `q` of word row `r` is row `2 r + q` of the slices. -/
theorem canon_PAIRS (v : (n : ℕ) → n < 28 → FVec Ideal S160x256 .bf16) (f : Fin 160 → Fin 7168 → EReal)
    (hv : ∀ (n : ℕ) (h : n < 28) (r : Fin 160) (c : Fin 256), v n h (ix2 r c) = f r ⟨256 * n + c.val, by omega⟩)
    (q : Fin 2) (r : Fin 80) (a : Fin 2) (c : Fin 7168) :
    ∀ (n : ℕ) (h : n ≤ 28), c.val < 256 * n →
      View.canon (PAIRS (F := Ideal) v n h) (ix4 q r a c) = f ⟨2 * r.val + q.val, by omega⟩ c
  | 0, _, hc => absurd hc (Nat.not_lt_zero _)
  | n + 1, h, hc => by
    by_cases hn : c.val < 256 * n
    · rw [PAIRS, View.canon_cons_of_not_mem, View.canon_cons_of_not_mem]
      · exact canon_PAIRS v f hv q r a c n _ hn
      · show (ix4 q r a c : S2x80x2x7168.Idx) ∉ (pairRect 0 (by omega) n h).set
        rw [mem_pairRect]; omega
      · show (ix4 q r a c : S2x80x2x7168.Idx) ∉ (pairRect 1 (by omega) n h).set
        rw [mem_pairRect]; omega
    · have h1 : 256 * n ≤ c.val := by omega
      have h2 : c.val < 256 * n + 256 := by omega
      have e : (⟨256 * n + (c.val - 256 * n), by omega⟩ : Fin 7168) = c := Fin.ext (by show 256 * n + (c.val - 256 * n) = c.val; omega)
      match q with
      | ⟨0, _⟩ =>
        rw [PAIRS, View.canon_cons_of_not_mem]
        · rw [← emb_pairRect ⟨0, by omega⟩ n h r a c h1 h2]
          refine (View.canon_cons_emb (pairRect 0 _ n h) _ _ _).trans ?_
          refine (PAIR0_apply (v n h) r a _).trans ?_
          rw [hv, e]
          rfl
        · show (ix4 (⟨0, by omega⟩ : Fin 2) r a c : S2x80x2x7168.Idx) ∉ (pairRect 1 (by omega) n h).set
          rw [mem_pairRect]; simp
      | ⟨1, _⟩ =>
        rw [PAIRS, ← emb_pairRect ⟨1, by omega⟩ n h r a c h1 h2]
        refine (View.canon_cons_emb (pairRect 1 _ n h) _ _ _).trans ?_
        refine (PAIR1_apply (v n h) r a _).trans ?_
        rw [hv, e]
  termination_by n => n

/-- Tile `n` of the scales, element by element. -/
theorem SLICE_apply (sv : Vec Ideal S160x7168 .bf16) (n : ℕ) (h : n < 28) (r : Fin 160) (c : Fin 256) :
    SLICE (F := Ideal) (fun r => View.ld sv r) n h (ix2 r c) = sv (ix2 r ⟨256 * n + c.val, by omega⟩) :=
  View.ld_unit_apply_of _ _ _ _ _ _ fun a => match a with
    | ⟨0, _⟩ => by show r.val = 0 + r.val; omega
    | ⟨1, _⟩ => rfl

/-- Tile `n` of the unpacked zero points, element by element: a nibble of byte `c / 2`. -/
theorem ZSLICE_apply (zv : Vec Ideal S160x3584 .i8) (n : ℕ) (h : n < 28) (r : Fin 160) (c : Fin 256) :
    ZSLICE (F := Ideal) (fun r => View.ld zv r) n h (ix2 r c)
      = nib (256 * n + c.val) (zv (ix2 r ⟨(256 * n + c.val) / 2, by omega⟩)) := by
  unfold ZSLICE
  rw [ZF_apply]
  have e1 : ∀ b, nib c.val b = nib (256 * n + c.val) b := fun b => by
    unfold nib; rw [show (256 * n + c.val) % 2 = c.val % 2 by omega]
  rw [e1]
  refine congrArg (nib _) (View.ld_unit_apply_of _ _ _ _ _ _ fun a => match a with
    | ⟨0, _⟩ => by show r.val = 0 + r.val; omega
    | ⟨1, _⟩ => by show (256 * n + c.val) / 2 = 128 * n + c.val / 2; omega)

/-- The rows a grid point loads from a scratch array: half `g % 2` of word row `4 t + g / 2`. -/
theorem rows_apply (i : grid0.Coords) (L : (r : Rect S2x80x2x7168) → r.shape.Idx → Elt Ideal .bf16)
    (X : Vec Ideal S2x80x2x7168 .bf16) (hL : ∀ r, L r = View.ld X r) (g : Fin 8) (a : Fin 2) (c : Fin 7168)
    (hi : (i 0).val < 20) :
    rows (F := Ideal) i L g (ix4 0 0 a c) = X (ix4 ⟨g.val % 2, by omega⟩ ⟨4 * (i 0).val + g.val / 2, by omega⟩ a c) := by
  have h1 : ∀ (q : Fin 4) (inb), L (Rect.unit (s := S2x80x2x7168) (k0_off1 i (BitVec.ofNat 32 q.val)) S1x1x2x7168.size inb) (ix4 0 0 a c)
      = X (ix4 0 ⟨4 * (i 0).val + q.val, by omega⟩ a c) := fun q inb => by
    rw [hL]
    refine View.ld_unit_apply_of _ _ _ _ _ _ fun b => ?_
    rw [show k0_off1 i (BitVec.ofNat 32 q.val) b = (![0, 4 * (i 0).val + q.val, 0, 0] : Fin 4 → ℕ) b from congrFun (k0_off1_eq i q) b]
    match b with
    | ⟨0, _⟩ => rfl
    | ⟨1, _⟩ => rfl
    | ⟨2, _⟩ => show a.val = 0 + a.val; omega
    | ⟨3, _⟩ => show c.val = 0 + c.val; omega
  have h2 : ∀ (q : Fin 4) (inb), L (Rect.unit (s := S2x80x2x7168) (k0_off2 i (BitVec.ofNat 32 q.val)) S1x1x2x7168.size inb) (ix4 0 0 a c)
      = X (ix4 1 ⟨4 * (i 0).val + q.val, by omega⟩ a c) := fun q inb => by
    rw [hL]
    refine View.ld_unit_apply_of _ _ _ _ _ _ fun b => ?_
    rw [show k0_off2 i (BitVec.ofNat 32 q.val) b = (![1, 4 * (i 0).val + q.val, 0, 0] : Fin 4 → ℕ) b from congrFun (k0_off2_eq i q) b]
    match b with
    | ⟨0, _⟩ => rfl
    | ⟨1, _⟩ => rfl
    | ⟨2, _⟩ => show a.val = 0 + a.val; omega
    | ⟨3, _⟩ => show c.val = 0 + c.val; omega
  match g with
  | ⟨0, _⟩ => exact (congrFun (show rows (F := Ideal) i L ⟨0, by omega⟩ = L (Rect.unit (s := S2x80x2x7168) (k0_off1 i (BitVec.ofNat 32 (0 : Fin 4).val)) S1x1x2x7168.size (k0_off1_inb i 0)) by sl_kernel_rfl) _).trans ((h1 0 (k0_off1_inb i 0)).trans (by sl_kernel_rfl))
  | ⟨1, _⟩ => exact (congrFun (show rows (F := Ideal) i L ⟨1, by omega⟩ = L (Rect.unit (s := S2x80x2x7168) (k0_off2 i (BitVec.ofNat 32 (0 : Fin 4).val)) S1x1x2x7168.size (k0_off2_inb i 0)) by sl_kernel_rfl) _).trans ((h2 0 (k0_off2_inb i 0)).trans (by sl_kernel_rfl))
  | ⟨2, _⟩ => exact (congrFun (show rows (F := Ideal) i L ⟨2, by omega⟩ = L (Rect.unit (s := S2x80x2x7168) (k0_off1 i (BitVec.ofNat 32 (1 : Fin 4).val)) S1x1x2x7168.size (k0_off1_inb i 1)) by sl_kernel_rfl) _).trans ((h1 1 (k0_off1_inb i 1)).trans (by sl_kernel_rfl))
  | ⟨3, _⟩ => exact (congrFun (show rows (F := Ideal) i L ⟨3, by omega⟩ = L (Rect.unit (s := S2x80x2x7168) (k0_off2 i (BitVec.ofNat 32 (1 : Fin 4).val)) S1x1x2x7168.size (k0_off2_inb i 1)) by sl_kernel_rfl) _).trans ((h2 1 (k0_off2_inb i 1)).trans (by sl_kernel_rfl))
  | ⟨4, _⟩ => exact (congrFun (show rows (F := Ideal) i L ⟨4, by omega⟩ = L (Rect.unit (s := S2x80x2x7168) (k0_off1 i (BitVec.ofNat 32 (2 : Fin 4).val)) S1x1x2x7168.size (k0_off1_inb i 2)) by sl_kernel_rfl) _).trans ((h1 2 (k0_off1_inb i 2)).trans (by sl_kernel_rfl))
  | ⟨5, _⟩ => exact (congrFun (show rows (F := Ideal) i L ⟨5, by omega⟩ = L (Rect.unit (s := S2x80x2x7168) (k0_off2 i (BitVec.ofNat 32 (2 : Fin 4).val)) S1x1x2x7168.size (k0_off2_inb i 2)) by sl_kernel_rfl) _).trans ((h2 2 (k0_off2_inb i 2)).trans (by sl_kernel_rfl))
  | ⟨6, _⟩ => exact (congrFun (show rows (F := Ideal) i L ⟨6, by omega⟩ = L (Rect.unit (s := S2x80x2x7168) (k0_off1 i (BitVec.ofNat 32 (3 : Fin 4).val)) S1x1x2x7168.size (k0_off1_inb i 3)) by sl_kernel_rfl) _).trans ((h1 3 (k0_off1_inb i 3)).trans (by sl_kernel_rfl))
  | ⟨7, _⟩ => exact (congrFun (show rows (F := Ideal) i L ⟨7, by omega⟩ = L (Rect.unit (s := S2x80x2x7168) (k0_off2 i (BitVec.ofNat 32 (3 : Fin 4).val)) S1x1x2x7168.size (k0_off2_inb i 3)) by sl_kernel_rfl) _).trans ((h2 3 (k0_off2_inb i 3)).trans (by sl_kernel_rfl))

end Cert.KernelIdeal.Tile
-- ==== Proof.Block.lean ====
/-
  The dot product of one grid point over the group tables: group `g` of point `t` is row `8 t + g` of the zero points and
  of the scales.
-/
module

public import proofs.«01_k».proof.Proof.Values

@[expose] public section

set_option maxRecDepth 16384

noncomputable section

namespace Cert.KernelIdeal.Tile

open Idealize.ShloMosaic Idealize.SL.Sem Cert.KernelIdeal Cert.KernelIdeal.Gen

/-- Point `t`'s dot product with the dequantized column, the zero points and the scales given per group and column. -/
def blockDot (zs ss : Fin 160 → Fin 7168 → EReal) (t : ℕ) (ht : t < 20) (wv : Vec Ideal S512x7168 .i8)
    (x : Vec Ideal S48x1024 .bf16) (r : Fin 48) (c : Fin 7168) : EReal :=
  ∑ k : Fin 1024, x (ix2 r k) *
    ((nib k.val (wv (ix2 ⟨k.val / 2, by omega⟩ c)) - zs ⟨8 * t + k.val / 128, by omega⟩ c)
      * ss ⟨8 * t + k.val / 128, by omega⟩ c)

/-- A scratch array that holds the table `f`: half `q` of word row `r` is row `2 r + q`. -/
def Holds (X : Vec Ideal S2x80x2x7168 .bf16) (f : Fin 160 → Fin 7168 → EReal) : Prop :=
  ∀ (q : Fin 2) (r : Fin 80) (a : Fin 2) (c : Fin 7168), X (ix4 q r a c) = f ⟨2 * r.val + q.val, by omega⟩ c

/-- The row a group loads from a scratch array, at either sublane half, is that group's row of the function the array holds. -/
theorem rows_of_holds (i : grid0.Coords) (L : (r : Rect S2x80x2x7168) → r.shape.Idx → Elt Ideal .bf16)
    (X : Vec Ideal S2x80x2x7168 .bf16) (hL : ∀ r, L r = View.ld X r) (f : Fin 160 → Fin 7168 → EReal) (hX : Holds X f)
    (hi : (i 0).val < 20) (g : Fin 8) (a : Fin 2) (c : Fin 7168) :
    rows (F := Ideal) i L g (ix4 0 0 a c) = f ⟨8 * (i 0).val + g.val, by omega⟩ c := by
  rw [rows_apply i L X hL g a c hi, hX]
  refine congrArg (fun n => f n c) (Fin.ext ?_)
  show 2 * (4 * (i 0).val + g.val / 2) + g.val % 2 = 8 * (i 0).val + g.val
  omega

/-- The block's product over rows loaded from the scratch arrays is `blockDot` of the functions the arrays hold. -/
theorem dotRows_eq (i : grid0.Coords) (zL sL : (r : Rect S2x80x2x7168) → r.shape.Idx → Elt Ideal .bf16)
    (Z S : Vec Ideal S2x80x2x7168 .bf16) (hz : ∀ r, zL r = View.ld Z r) (hs : ∀ r, sL r = View.ld S r)
    (zs ss : Fin 160 → Fin 7168 → EReal) (hZ : Holds Z zs) (hS : Holds S ss) (hi : (i 0).val < 20)
    (wv : Vec Ideal S512x7168 .i8) (x : Vec Ideal S48x1024 .bf16) (r : Fin 48) (c : Fin 7168) :
    dotRows (rows (F := Ideal) i zL) (rows (F := Ideal) i sL) wv x r c = blockDot zs ss (i 0).val hi wv x r c := by
  unfold dotRows blockDot
  refine Finset.sum_congr rfl fun k _ => ?_
  rw [rows_of_holds i zL Z hz zs hZ hi, rows_of_holds i sL S hs ss hS hi]

end Cert.KernelIdeal.Tile
-- ==== Proof.PiecesA.lean ====
/-
  The stores of the first grid point fill the two scratch arrays, then run the 28 tiles over them.
-/
module

public import proofs.«01_k».proof.Proof.Pieces
public import proofs.«01_k».proof.Proof.Gen.KernelIdeal.Frame

@[expose] public section

set_option maxRecDepth 16384

noncomputable section

namespace Cert.KernelIdeal.Tile

open Idealize.ShloMosaic Idealize.SL.Sem Cert.KernelIdeal Cert.KernelIdeal.Gen

variable {F : FTy → Type} [FloatOps F]

/-- The first point's stores into the first scratch array are the list `PAIRS` of the scale tiles. -/
theorem scales_A (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec F S48x1024 .bf16) (x1 : Vec F S512x7168 .i8) (x2 : Vec F S160x7168 .bf16) (x3 : Vec F S160x3584 .i8) :
    (kernelRun0_A c i arg1 harg1 arg2 harg2 arg3 harg3 arg4 harg4 arg5 harg5 arg6 harg6 arg7 harg7 arg8 harg8 hc0 hc1 x0 x1 x2 x3).2.1
      = PAIRS (SLICE fun r => View.readAt (Elt F) arg3.view r.toLoadRect (harg3.unread x2)) 28 le_rfl := by
  sl_kernel_rfl

/-- The first point's stores into the second scratch array are the list `PAIRS` of the zero-point tiles. -/
theorem zeros_A (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec F S48x1024 .bf16) (x1 : Vec F S512x7168 .i8) (x2 : Vec F S160x7168 .bf16) (x3 : Vec F S160x3584 .i8) :
    (kernelRun0_A c i arg1 harg1 arg2 harg2 arg3 harg3 arg4 harg4 arg5 harg5 arg6 harg6 arg7 harg7 arg8 harg8 hc0 hc1 x0 x1 x2 x3).2.2.1
      = PAIRS (ZSLICE fun r => View.readAt (Elt F) arg4.view r.toLoadRect (harg4.unread x3)) 28 le_rfl := by
  sl_kernel_rfl

/-- The first point's stores into the accumulator: the zero fill, then one per tile. -/
theorem pieces_A (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec F S48x1024 .bf16) (x1 : Vec F S512x7168 .i8) (x2 : Vec F S160x7168 .bf16) (x3 : Vec F S160x3584 .i8) :
    (kernelRun0_A c i arg1 harg1 arg2 harg2 arg3 harg3 arg4 harg4 arg5 harg5 arg6 harg6 arg7 harg7 arg8 harg8 hc0 hc1 x0 x1 x2 x3).2.2.2.1
      = PLA (rows i fun r => arg7.view.readCov (PAIRS (ZSLICE fun r => View.readAt (Elt F) arg4.view r.toLoadRect (harg4.unread x3)) 28 le_rfl) r.toLoadRect)
          (rows i fun r => arg6.view.readCov (PAIRS (SLICE fun r => View.readAt (Elt F) arg3.view r.toLoadRect (harg3.unread x2)) 28 le_rfl) r.toLoadRect)
          (fun r => View.readAt (Elt F) arg2.view r.toLoadRect (harg2.unread x1))
          (View.readAt (Elt F) arg1.view (Rect.unit ![0, 0] S48x1024.size inb_S48x1024_S48x1024_0_0).toLoadRect (harg1.unread x0))
          arg8.view 28 le_rfl := by
  sl_kernel_rfl

end Cert.KernelIdeal.Tile
-- ==== Proof.CaseA.lean ====
/-
  The first grid point: it fills the scratch arrays with the scales and the zero points of every group, and starts the accumulator.
-/
module

public import proofs.«01_k».proof.Proof.Block
public import proofs.«01_k».proof.Proof.PiecesA

@[expose] public section

set_option maxRecDepth 16384

noncomputable section

namespace Cert.KernelIdeal.Tile

open Idealize.ShloMosaic Idealize.SL.Sem Cert.KernelIdeal Cert.KernelIdeal.Gen

/-- The scales, per group and column. -/
def scaleOf (x2 : Vec Ideal S160x7168 .bf16) (g : Fin 160) (c : Fin 7168) : EReal := x2 (ix2 g c)

/-- The zero points, per group and column: column `c` is a nibble of byte `c / 2`. -/
def zeroOf (x3 : Vec Ideal S160x3584 .i8) (g : Fin 160) (c : Fin 7168) : EReal :=
  nib c.val (x3 (ix2 g ⟨c.val / 2, by omega⟩))

/-- The stores of the first point leave, in the first scratch array, the scale of every group and column. -/
theorem fill_scales (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) :
    Holds (View.canon (PAIRS (F := Ideal) (SLICE fun r => View.readAt (Elt Ideal) arg3.view r.toLoadRect (harg3.unread x2)) 28 le_rfl)) (scaleOf x2) := by
  have h : (fun r : Rect S160x7168 => View.readAt (Elt Ideal) arg3.view r.toLoadRect (harg3.unread x2)) = fun r => View.ld x2 r := funext fun r => by rw [View.readAt_eq_ld, Memref.IsWhole.read_unread]
  rw [h]
  intro q r a c
  exact canon_PAIRS _ (scaleOf x2) (fun n h r c => SLICE_apply x2 n h r c) q r a c 28 le_rfl (by omega)

/-- After the first point the first scratch array holds the scales. -/
theorem holds_scales (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) :
    Holds (sout0_A_0 d i arg1 harg1 arg2 harg2 arg3 harg3 arg4 harg4 arg5 harg5 arg6 harg6 arg7 harg7 arg8 harg8 hc0 hc1 x0 x1 x2 x3) (scaleOf x2) := by
  intro q r a c
  refine (View.read_writes_junk_apply_eq_canon VS0_0 (ix4 q r a c) _).trans ?_
  rw [scales_A]
  exact fill_scales d i arg1 harg1 arg2 harg2 arg3 harg3 arg4 harg4 arg5 harg5 arg6 harg6 arg7 harg7 arg8 harg8 hc0 hc1 x0 x1 x2 x3 q r a c

/-- The stores of the first point leave, in the second scratch array, the zero point of every group and column. -/
theorem fill_zeros (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) :
    Holds (View.canon (PAIRS (F := Ideal) (ZSLICE fun r => View.readAt (Elt Ideal) arg4.view r.toLoadRect (harg4.unread x3)) 28 le_rfl)) (zeroOf x3) := by
  have h : (fun r : Rect S160x3584 => View.readAt (Elt Ideal) arg4.view r.toLoadRect (harg4.unread x3)) = fun r => View.ld x3 r := funext fun r => by rw [View.readAt_eq_ld, Memref.IsWhole.read_unread]
  rw [h]
  intro q r a c
  exact canon_PAIRS _ (zeroOf x3) (fun n h r c => ZSLICE_apply x3 n h r c) q r a c 28 le_rfl (by omega)

/-- After the first point the second scratch array holds the zero points. -/
theorem holds_zeros (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) :
    Holds (sout0_A_1 d i arg1 harg1 arg2 harg2 arg3 harg3 arg4 harg4 arg5 harg5 arg6 harg6 arg7 harg7 arg8 harg8 hc0 hc1 x0 x1 x2 x3) (zeroOf x3) := by
  intro q r a c
  refine (View.read_writes_junk_apply_eq_canon VS0_1 (ix4 q r a c) _).trans ?_
  rw [zeros_A]
  exact fill_zeros d i arg1 harg1 arg2 harg2 arg3 harg3 arg4 harg4 arg5 harg5 arg6 harg6 arg7 harg7 arg8 harg8 hc0 hc1 x0 x1 x2 x3 q r a c

/-- After the first point the accumulator is zero plus the first block's product. -/
theorem acc_A (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) (hi : (i 0).val < 20) (r : Fin 48) (c : Fin 7168) :
    sout0_A_2 d i arg1 harg1 arg2 harg2 arg3 harg3 arg4 harg4 arg5 harg5 arg6 harg6 arg7 harg7 arg8 harg8 hc0 hc1 x0 x1 x2 x3 (ix2 r c) = 0 + blockDot (zeroOf x3) (scaleOf x2) (i 0).val hi x1 x0 r c := by
  refine (View.read_writes_junk_apply_eq_canon VS0_2 (ix2 r c) _).trans ?_
  rw [pieces_A]
  have h2 : (fun r : Rect S512x7168 => View.readAt (Elt Ideal) arg2.view r.toLoadRect (harg2.unread x1)) = fun r => View.ld x1 r := funext fun r => by rw [View.readAt_eq_ld, Memref.IsWhole.read_unread]
  have h1 : View.readAt (Elt Ideal) arg1.view (Rect.unit ![0, 0] S48x1024.size inb_S48x1024_S48x1024_0_0).toLoadRect (harg1.unread x0) = x0 := by rw [View.readAt_eq_ld, Memref.IsWhole.read_unread]; exact View.ld_unit_lit' inb_S48x1024_S48x1024_0_0 x0 (by decide)
  rw [h1, h2]
  refine (canon_PLA _ _ x1 x0 arg8.view r c 28 le_rfl (by omega)).trans (congrArg (0 + ·) ?_)
  exact dotRows_eq i _ _ _ _ (fun r => View.readCov_eq_canon' _ _ _) (fun r => View.readCov_eq_canon' _ _ _) _ _
    (fill_zeros d i arg1 harg1 arg2 harg2 arg3 harg3 arg4 harg4 arg5 harg5 arg6 harg6 arg7 harg7 arg8 harg8 hc0 hc1 x0 x1 x2 x3) (fill_scales d i arg1 harg1 arg2 harg2 arg3 harg3 arg4 harg4 arg5 harg5 arg6 harg6 arg7 harg7 arg8 harg8 hc0 hc1 x0 x1 x2 x3) hi x1 x0 r c

end Cert.KernelIdeal.Tile
-- ==== Proof.PiecesB.lean ====
/-
  The stores of a middle grid point are the 28 tiles over the loads of the point.
-/
module

public import proofs.«01_k».proof.Proof.Pieces
public import proofs.«01_k».proof.Proof.Gen.KernelIdeal.Frame

@[expose] public section

set_option maxRecDepth 16384

noncomputable section

namespace Cert.KernelIdeal.Tile

open Idealize.ShloMosaic Idealize.SL.Sem Cert.KernelIdeal Cert.KernelIdeal.Gen

variable {F : FTy → Type} [FloatOps F]

/-- A middle point's stores into the accumulator: one per tile. -/
theorem pieces_B (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : ¬cond0_1 i)
    (x0 : Vec F S48x1024 .bf16) (x1 : Vec F S512x7168 .i8) (x2 : Vec F S160x7168 .bf16) (x3 : Vec F S160x3584 .i8) (xs0 : Vec F S2x80x2x7168 .bf16) (xs1 : Vec F S2x80x2x7168 .bf16) (xs2 : Vec F S48x7168 .f32) :
    (kernelRun0_B c i arg1 harg1 arg2 harg2 arg3 harg3 arg4 harg4 arg5 harg5 arg6 harg6 arg7 harg7 arg8 harg8 hc0 hc1 x0 x1 x2 x3 xs0 xs1 xs2).2.2.2.1
      = PL (rows i fun r => View.readAt (Elt F) arg7.view r.toLoadRect (harg7.unread xs1))
          (rows i fun r => View.readAt (Elt F) arg6.view r.toLoadRect (harg6.unread xs0))
          (fun r => View.readAt (Elt F) arg2.view r.toLoadRect (harg2.unread x1))
          (View.readAt (Elt F) arg1.view (Rect.unit ![0, 0] S48x1024.size inb_S48x1024_S48x1024_0_0).toLoadRect (harg1.unread x0))
          (fun r => View.readAt (Elt F) arg8.view r.toLoadRect (harg8.unread xs2)) 28 le_rfl := by
  sl_kernel_rfl

end Cert.KernelIdeal.Tile
-- ==== Proof.CaseB.lean ====
/-
  The accumulator after a grid point that finds the scratch arrays filled.
-/
module

public import proofs.«01_k».proof.Proof.Block
public import proofs.«01_k».proof.Proof.PiecesB

@[expose] public section

set_option maxRecDepth 16384

noncomputable section

namespace Cert.KernelIdeal.Tile

open Idealize.ShloMosaic Idealize.SL.Sem Cert.KernelIdeal Cert.KernelIdeal.Gen

/-- What a middle point's stores leave in the accumulator: its contents before, plus the block's product. -/
theorem canon_B (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : ¬cond0_1 i)
    (x0 : Vec Ideal S48x1024 .bf16) (x1 : Vec Ideal S512x7168 .i8) (x2 : Vec Ideal S160x7168 .bf16) (x3 : Vec Ideal S160x3584 .i8) (xs0 xs1 : Vec Ideal S2x80x2x7168 .bf16) (xs2 : Vec Ideal S48x7168 .f32)
    (zs ss : Fin 160 → Fin 7168 → EReal) (hZ : Holds xs1 zs) (hS : Holds xs0 ss) (hi : (i 0).val < 20) (r : Fin 48) (c : Fin 7168) :
    View.canon (kernelRun0_B d i arg1 harg1 arg2 harg2 arg3 harg3 arg4 harg4 arg5 harg5 arg6 harg6 arg7 harg7 arg8 harg8 hc0 hc1 x0 x1 x2 x3 xs0 xs1 xs2).2.2.2.1 (ix2 r c) = xs2 (ix2 r c) + blockDot zs ss (i 0).val hi x1 x0 r c := by
  rw [pieces_B]
  have h2 : (fun r : Rect S512x7168 => View.readAt (Elt Ideal) arg2.view r.toLoadRect (harg2.unread x1)) = fun r => View.ld x1 r := funext fun r => by rw [View.readAt_eq_ld, Memref.IsWhole.read_unread]
  have h8 : (fun r : Rect S48x7168 => View.readAt (Elt Ideal) arg8.view r.toLoadRect (harg8.unread xs2)) = fun r => View.ld xs2 r := funext fun r => by rw [View.readAt_eq_ld, Memref.IsWhole.read_unread]
  have h1 : View.readAt (Elt Ideal) arg1.view (Rect.unit ![0, 0] S48x1024.size inb_S48x1024_S48x1024_0_0).toLoadRect (harg1.unread x0) = x0 := by rw [View.readAt_eq_ld, Memref.IsWhole.read_unread]; exact View.ld_unit_lit' inb_S48x1024_S48x1024_0_0 x0 (by decide)
  rw [h1, h2, h8]
  refine (canon_PL _ _ x1 x0 xs2 r c 28 le_rfl (by omega)).trans (congrArg (xs2 (ix2 r c) + ·) ?_)
  exact dotRows_eq i _ _ xs1 xs0 (fun r => by rw [View.readAt_eq_ld, Memref.IsWhole.read_unread]) (fun r => by rw [View.readAt_eq_ld, Memref.IsWhole.read_unread]) zs ss hZ hS hi x1 x0 r c

/-- After a middle point the accumulator is its contents before plus the block's product. -/
theorem acc_B (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : ¬cond0_1 i)
    (x0 : Vec Ideal S48x1024 .bf16) (x1 : Vec Ideal S512x7168 .i8) (x2 : Vec Ideal S160x7168 .bf16) (x3 : Vec Ideal S160x3584 .i8) (xs0 xs1 : Vec Ideal S2x80x2x7168 .bf16) (xs2 : Vec Ideal S48x7168 .f32)
    (zs ss : Fin 160 → Fin 7168 → EReal) (hZ : Holds xs1 zs) (hS : Holds xs0 ss) (hi : (i 0).val < 20) (r : Fin 48) (c : Fin 7168) :
    sout0_B_2 d i arg1 harg1 arg2 harg2 arg3 harg3 arg4 harg4 arg5 harg5 arg6 harg6 arg7 harg7 arg8 harg8 hc0 hc1 x0 x1 x2 x3 xs0 xs1 xs2 (ix2 r c) = xs2 (ix2 r c) + blockDot zs ss (i 0).val hi x1 x0 r c := by
  refine (View.read_writes_junk_apply_eq_canon VS0_2 (ix2 r c) _).trans ?_
  exact canon_B d i arg1 harg1 arg2 harg2 arg3 harg3 arg4 harg4 arg5 harg5 arg6 harg6 arg7 harg7 arg8 harg8 hc0 hc1 x0 x1 x2 x3 xs0 xs1 xs2 zs ss hZ hS hi r c

end Cert.KernelIdeal.Tile
-- ==== Proof.PiecesC.lean ====
/-
  The stores of the last grid point are the 28 tiles over the loads of the point, and the output block is the
  accumulator they leave, rounded.
-/
module

public import proofs.«01_k».proof.Proof.Pieces
public import proofs.«01_k».proof.Proof.Gen.KernelIdeal.Frame

@[expose] public section

set_option maxRecDepth 16384

noncomputable section

namespace Cert.KernelIdeal.Tile

open Idealize.ShloMosaic Idealize.SL.Sem Cert.KernelIdeal Cert.KernelIdeal.Gen

variable {F : FTy → Type} [FloatOps F]

/-- The last point's stores into the accumulator: one per tile. -/
theorem pieces_C (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : cond0_1 i)
    (x0 : Vec F S48x1024 .bf16) (x1 : Vec F S512x7168 .i8) (x2 : Vec F S160x7168 .bf16) (x3 : Vec F S160x3584 .i8) (xs0 : Vec F S2x80x2x7168 .bf16) (xs1 : Vec F S2x80x2x7168 .bf16) (xs2 : Vec F S48x7168 .f32)  :
    (kernelRun0_C c i arg1 harg1 arg2 harg2 arg3 harg3 arg4 harg4 arg5 harg5 arg6 harg6 arg7 harg7 arg8 harg8 hc0 hc1 x0 x1 x2 x3 xs0 xs1 xs2).2.2.2.1
      = PL (rows i fun r => View.readAt (Elt F) arg7.view r.toLoadRect (harg7.unread xs1))
          (rows i fun r => View.readAt (Elt F) arg6.view r.toLoadRect (harg6.unread xs0))
          (fun r => View.readAt (Elt F) arg2.view r.toLoadRect (harg2.unread x1))
          (View.readAt (Elt F) arg1.view (Rect.unit ![0, 0] S48x1024.size inb_S48x1024_S48x1024_0_0).toLoadRect (harg1.unread x0))
          (fun r => View.readAt (Elt F) arg8.view r.toLoadRect (harg8.unread xs2)) 28 le_rfl := by
  sl_kernel_rfl

/-- The last point stores the output once, whole. -/
theorem out_C (c : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : cond0_1 i)
    (x0 : Vec F S48x1024 .bf16) (x1 : Vec F S512x7168 .i8) (x2 : Vec F S160x7168 .bf16) (x3 : Vec F S160x3584 .i8) (xs0 : Vec F S2x80x2x7168 .bf16) (xs1 : Vec F S2x80x2x7168 .bf16) (xs2 : Vec F S48x7168 .f32)  :
    (kernelRun0_C c i arg1 harg1 arg2 harg2 arg3 harg3 arg4 harg4 arg5 harg5 arg6 harg6 arg7 harg7 arg8 harg8 hc0 hc1 x0 x1 x2 x3 xs0 xs1 xs2).1
      = [⟨Rect.unit (s := S48x7168) ![0, 0] S48x7168.size inb_S48x7168_S48x7168_0_0,
          k0_pay1 (arg8.view.readCov (PL (rows i fun r => View.readAt (Elt F) arg7.view r.toLoadRect (harg7.unread xs1))
          (rows i fun r => View.readAt (Elt F) arg6.view r.toLoadRect (harg6.unread xs0))
          (fun r => View.readAt (Elt F) arg2.view r.toLoadRect (harg2.unread x1))
          (View.readAt (Elt F) arg1.view (Rect.unit ![0, 0] S48x1024.size inb_S48x1024_S48x1024_0_0).toLoadRect (harg1.unread x0))
          (fun r => View.readAt (Elt F) arg8.view r.toLoadRect (harg8.unread xs2)) 28 le_rfl)
            (Rect.unit (s := S48x7168) ![0, 0] S48x7168.size inb_S48x7168_S48x7168_0_0).toLoadRect)⟩] := by
  sl_kernel_rfl

end Cert.KernelIdeal.Tile
-- ==== Proof.CaseC.lean ====
/-
  The last grid point: the accumulator, and the output it is cast to.
-/
module

public import proofs.«01_k».proof.Proof.Block
public import proofs.«01_k».proof.Proof.PiecesC

@[expose] public section

set_option maxRecDepth 16384

noncomputable section

namespace Cert.KernelIdeal.Tile

open Idealize.ShloMosaic Idealize.SL.Sem Cert.KernelIdeal Cert.KernelIdeal.Gen

/-- What the last point's stores leave in the accumulator: its contents before, plus the block's product. -/
theorem canon_C (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : cond0_1 i)
    (x0 : Vec Ideal S48x1024 .bf16) (x1 : Vec Ideal S512x7168 .i8) (x2 : Vec Ideal S160x7168 .bf16) (x3 : Vec Ideal S160x3584 .i8) (xs0 xs1 : Vec Ideal S2x80x2x7168 .bf16) (xs2 : Vec Ideal S48x7168 .f32)
    (zs ss : Fin 160 → Fin 7168 → EReal) (hZ : Holds xs1 zs) (hS : Holds xs0 ss) (hi : (i 0).val < 20) (r : Fin 48) (c : Fin 7168) :
    View.canon (kernelRun0_C d i arg1 harg1 arg2 harg2 arg3 harg3 arg4 harg4 arg5 harg5 arg6 harg6 arg7 harg7 arg8 harg8 hc0 hc1 x0 x1 x2 x3 xs0 xs1 xs2).2.2.2.1 (ix2 r c) = xs2 (ix2 r c) + blockDot zs ss (i 0).val hi x1 x0 r c := by
  rw [pieces_C]
  have h2 : (fun r : Rect S512x7168 => View.readAt (Elt Ideal) arg2.view r.toLoadRect (harg2.unread x1)) = fun r => View.ld x1 r := funext fun r => by rw [View.readAt_eq_ld, Memref.IsWhole.read_unread]
  have h8 : (fun r : Rect S48x7168 => View.readAt (Elt Ideal) arg8.view r.toLoadRect (harg8.unread xs2)) = fun r => View.ld xs2 r := funext fun r => by rw [View.readAt_eq_ld, Memref.IsWhole.read_unread]
  have h1 : View.readAt (Elt Ideal) arg1.view (Rect.unit ![0, 0] S48x1024.size inb_S48x1024_S48x1024_0_0).toLoadRect (harg1.unread x0) = x0 := by rw [View.readAt_eq_ld, Memref.IsWhole.read_unread]; exact View.ld_unit_lit' inb_S48x1024_S48x1024_0_0 x0 (by decide)
  rw [h1, h2, h8]
  refine (canon_PL _ _ x1 x0 xs2 r c 28 le_rfl (by omega)).trans (congrArg (xs2 (ix2 r c) + ·) ?_)
  exact dotRows_eq i _ _ xs1 xs0 (fun r => by rw [View.readAt_eq_ld, Memref.IsWhole.read_unread]) (fun r => by rw [View.readAt_eq_ld, Memref.IsWhole.read_unread]) zs ss hZ hS hi x1 x0 r c

/-- After the last point the accumulator is its contents before plus the block's product. -/
theorem acc_C (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : cond0_1 i)
    (x0 : Vec Ideal S48x1024 .bf16) (x1 : Vec Ideal S512x7168 .i8) (x2 : Vec Ideal S160x7168 .bf16) (x3 : Vec Ideal S160x3584 .i8) (xs0 xs1 : Vec Ideal S2x80x2x7168 .bf16) (xs2 : Vec Ideal S48x7168 .f32)
    (zs ss : Fin 160 → Fin 7168 → EReal) (hZ : Holds xs1 zs) (hS : Holds xs0 ss) (hi : (i 0).val < 20) (r : Fin 48) (c : Fin 7168) :
    sout0_C_2 d i arg1 harg1 arg2 harg2 arg3 harg3 arg4 harg4 arg5 harg5 arg6 harg6 arg7 harg7 arg8 harg8 hc0 hc1 x0 x1 x2 x3 xs0 xs1 xs2 (ix2 r c) = xs2 (ix2 r c) + blockDot zs ss (i 0).val hi x1 x0 r c := by
  refine (View.read_writes_junk_apply_eq_canon VS0_2 (ix2 r c) _).trans ?_
  exact canon_C d i arg1 harg1 arg2 harg2 arg3 harg3 arg4 harg4 arg5 harg5 arg6 harg6 arg7 harg7 arg8 harg8 hc0 hc1 x0 x1 x2 x3 xs0 xs1 xs2 zs ss hZ hS hi r c

/-- The output written at the last point is the accumulator before it plus the last block's product. -/
theorem value_C (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : ¬cond0_0 i) (hc1 : cond0_1 i)
    (x0 : Vec Ideal S48x1024 .bf16) (x1 : Vec Ideal S512x7168 .i8) (x2 : Vec Ideal S160x7168 .bf16) (x3 : Vec Ideal S160x3584 .i8) (xs0 xs1 : Vec Ideal S2x80x2x7168 .bf16) (xs2 : Vec Ideal S48x7168 .f32)
    (zs ss : Fin 160 → Fin 7168 → EReal) (hZ : Holds xs1 zs) (hS : Holds xs0 ss) (hi : (i 0).val < 20) (r : Fin 48) (c : Fin 7168) :
    out0_C_4 d i arg1 harg1 arg2 harg2 arg3 harg3 arg4 harg4 arg5 harg5 arg6 harg6 arg7 harg7 arg8 harg8 hc0 hc1 x0 x1 x2 x3 xs0 xs1 xs2 (ix2 r c) = xs2 (ix2 r c) + blockDot zs ss (i 0).val hi x1 x0 r c := by
  refine (View.read_writes_junk_apply_eq_canon VO0_4 (ix2 r c) _).trans ?_
  rw [out_C, View.canon_cons_unit_lit' inb_S48x7168_S48x7168_0_0 _ _ (by decide)]
  unfold k0_pay1
  rw [← pieces_C d i arg1 harg1 arg2 harg2 arg3 harg3 arg4 harg4 arg5 harg5 arg6 harg6 arg7 harg7 arg8 harg8 hc0 hc1 x0 x1 x2 x3 xs0 xs1 xs2]
  rw [View.readCov_eq_canon']
  refine Eq.trans ?_ (canon_C d i arg1 harg1 arg2 harg2 arg3 harg3 arg4 harg4 arg5 harg5 arg6 harg6 arg7 harg7 arg8 harg8 hc0 hc1 x0 x1 x2 x3 xs0 xs1 xs2 zs ss hZ hS hi r c)
  refine congrArg (View.canon _) ?_
  funext a
  match a with
  | ⟨0, _⟩ => apply Fin.ext; show 0 + 1 * r.val = r.val; omega
  | ⟨1, _⟩ => apply Fin.ext; show 0 + 1 * c.val = c.val; omega

end Cert.KernelIdeal.Tile
-- ==== Proof.Fold.lean ====
/-
  The kernel's grid, point by point: after point `n` the scratch arrays hold the scales and the zero points of every group,
  and the accumulator holds the sum of the first `1024 (n + 1)` terms; the output is the whole sum.
-/
module

public import proofs.«01_k».proof.Proof.Terms
public import proofs.«01_k».proof.Proof.CaseA
public import proofs.«01_k».proof.Proof.CaseB
public import proofs.«01_k».proof.Proof.CaseC
public import proofs.«01_k».proof.Proof.Gen.KernelIdeal.Value

@[expose] public section

set_option maxRecDepth 16384

noncomputable section

namespace Cert.KernelIdeal.Tile

open Idealize.ShloMosaic Idealize.ShloMosaic.TcCoe Idealize.SL.Sem Cert.KernelIdeal Cert.KernelIdeal.Gen Cert.KernelIdeal.Value

variable (m : (ℓ : Loc nD τ sig) → Buf (Elt Ideal) ℓ)

/-- The activations, as the kernel finds them. -/
abbrev argX (d : Dev nD) : Vec Ideal S48x1x20480 .bf16 := m ((d : Thread nD τ).loc main_arg0)
/-- The packed codes. -/
abbrev argW (d : Dev nD) : Vec Ideal S10240x7168 .i8 := m ((d : Thread nD τ).loc main_arg1)
/-- The scales. -/
abbrev argS (d : Dev nD) : Vec Ideal S160x7168 .bf16 := m ((d : Thread nD τ).loc main_arg2)
/-- The packed zero points. -/
abbrev argZ (d : Dev nD) : Vec Ideal S160x3584 .i8 := m ((d : Thread nD τ).loc main_arg3)

/-- The host's reshape before the call drops the axis of size one. -/
theorem V_x (d : Dev nD) : (V m d main_v0 : Vec Ideal S48x20480 .bf16)
    = shapeCast S48x20480 (argX m d) shapeCasts_S48x1x20480_S48x20480 := by
  sl_kernel_rfl

/-- The array the call reads, element by element: the activations. -/
theorem V_x_apply (d : Dev nD) (r : Fin 48) (k : Fin 20480) :
    (V m d main_v0 : Vec Ideal S48x20480 .bf16) (ix2 r k) = argX m d (ix3 r 0 k) := by
  rw [V_x]
  refine shapeCast_apply _ shapeCasts_S48x1x20480_S48x20480 (ix2 r k) (ix3 r 0 k) ?_
  rw [Shape.rowMajor_val_two, Shape.rowMajor_val_three]
  show (r.val * 1 + 0) * 20480 + k.val = r.val * 20480 + k.val
  omega

/-- The windows' index maps, point by point. -/
theorem index_facts : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ (grid0.coords t (0 : Fin 1)).val = t.val :=
  (by decide +kernel : ∀ t : Fin grid0.N, _)

/-- The grid has 20 points. -/
theorem lt_N {n : ℕ} (h : n < cfg0.N) : n < 20 := lt_of_lt_of_eq h N_0

/-- Point `t`'s block of the activations: columns `1024 t` on. -/
theorem blk_x (d : Dev nD) (t : Fin cfg0.N) (r : Fin 48) (k : Fin 1024) :
    (iblk m d 0 t : Vec Ideal S48x1024 .bf16) (ix2 r k)
      = argX m d (ix3 r 0 ⟨1024 * t.val + k.val, by have := lt_N t.isLt; omega⟩) := by
  obtain ⟨e0, e1, -⟩ := index_facts t
  rw [← V_x_apply]
  unfold iblk
  rw [View.read_apply]
  show V m d main_v0 _ = V m d main_v0 _
  refine congrArg (V m d main_v0) (funext fun a => Fin.ext ?_)
  match a with
  | ⟨0, _⟩ => show win0_0.index t 0 * 48 + 1 * r.val = r.val; rw [e0]; omega
  | ⟨1, _⟩ => show win0_0.index t 1 * 1024 + 1 * k.val = 1024 * t.val + k.val; rw [e1]; omega

/-- Point `t`'s block of the packed codes: rows `512 t` on. -/
theorem blk_w (d : Dev nD) (t : Fin cfg0.N) (r : Fin 512) (c : Fin 7168) :
    (iblk m d 1 t : Vec Ideal S512x7168 .i8) (ix2 r c)
      = argW m d (ix2 ⟨512 * t.val + r.val, by have := lt_N t.isLt; omega⟩ c) := by
  obtain ⟨-, -, e0, e1, -⟩ := index_facts t
  unfold iblk
  rw [View.read_apply]
  show V m d main_arg1 _ = _
  rw [V_main_arg1]
  refine congrArg (argW m d) (funext fun a => Fin.ext ?_)
  match a with
  | ⟨0, _⟩ => show win0_1.index t 0 * 512 + 1 * r.val = 512 * t.val + r.val; rw [e0]; omega
  | ⟨1, _⟩ => show win0_1.index t 1 * 7168 + 1 * c.val = c.val; rw [e1]; omega

/-- Every point's block of the scales is the whole array. -/
theorem blk_s (d : Dev nD) (t : Fin cfg0.N) : (iblk m d 2 t : Vec Ideal S160x7168 .bf16) = argS m d := by
  obtain ⟨-, -, -, -, e0, e1, -⟩ := index_facts t
  funext j
  unfold iblk
  rw [View.read_apply]
  show V m d main_arg2 _ = _
  rw [V_main_arg2]
  refine congrArg (argS m d) (funext fun a => Fin.ext ?_)
  match a with
  | ⟨0, _⟩ => show win0_2.index t 0 * 160 + 1 * (j 0).val = (j 0).val; rw [e0]; omega
  | ⟨1, _⟩ => show win0_2.index t 1 * 7168 + 1 * (j 1).val = (j 1).val; rw [e1]; omega

/-- Every point's block of the zero points is the whole array. -/
theorem blk_z (d : Dev nD) (t : Fin cfg0.N) : (iblk m d 3 t : Vec Ideal S160x3584 .i8) = argZ m d := by
  obtain ⟨-, -, -, -, -, -, e0, e1, -⟩ := index_facts t
  funext j
  unfold iblk
  rw [View.read_apply]
  show V m d main_arg3 _ = _
  rw [V_main_arg3]
  refine congrArg (argZ m d) (funext fun a => Fin.ext ?_)
  match a with
  | ⟨0, _⟩ => show win0_3.index t 0 * 160 + 1 * (j 0).val = (j 0).val; rw [e0]; omega
  | ⟨1, _⟩ => show win0_3.index t 1 * 3584 + 1 * (j 1).val = (j 1).val; rw [e1]; omega

/-- Point `t`'s dot product is the sum of its 1024 terms. -/
theorem blockDot_eq (d : Dev nD) (t : Fin cfg0.N) (n : ℕ) (hn : n < 20) (hnt : n = t.val) (r : Fin 48) (c : Fin 7168) :
    blockDot (zeroOf (argZ m d)) (scaleOf (argS m d)) n hn (iblk m d 1 t) (iblk m d 0 t) r c
      = ∑ k ∈ Finset.range 1024, term (argX m d) (argW m d) (argS m d) (argZ m d) r c (1024 * t.val + k) := by
  subst hnt
  rw [Finset.sum_range]
  unfold blockDot
  refine Finset.sum_congr rfl fun k _ => ?_
  rw [blk_x, blk_w]
  unfold term zeroOf scaleOf
  have hk := k.isLt
  have e1 : (⟨1024 * t.val + k.val, by omega⟩ : Fin 20480) = ⟨(1024 * t.val + k.val) % 20480, Nat.mod_lt _ (by decide)⟩ :=
    Fin.ext (by show 1024 * t.val + k.val = (1024 * t.val + k.val) % 20480; omega)
  have e2 : (⟨512 * t.val + k.val / 2, by omega⟩ : Fin 10240) = ⟨(1024 * t.val + k.val) / 2 % 10240, Nat.mod_lt _ (by decide)⟩ :=
    Fin.ext (by show 512 * t.val + k.val / 2 = (1024 * t.val + k.val) / 2 % 10240; omega)
  have e3 : (⟨8 * t.val + k.val / 128, by omega⟩ : Fin 160) = ⟨(1024 * t.val + k.val) / 128 % 160, Nat.mod_lt _ (by decide)⟩ :=
    Fin.ext (by show 8 * t.val + k.val / 128 = (1024 * t.val + k.val) / 128 % 160; omega)
  rw [e1, e2, e3, nib_congr (show k.val % 2 = (1024 * t.val + k.val) % 2 by omega)]

/-- The first `n` terms of output element `(r, c)`. -/
def partialSum (d : Dev nD) (r : Fin 48) (c : Fin 7168) (n : ℕ) : EReal :=
  ∑ R ∈ Finset.range n, term (argX m d) (argW m d) (argS m d) (argZ m d) r c R

/-- One more block of 1024 terms. -/
theorem partialSum_step (d : Dev nD) (r : Fin 48) (c : Fin 7168) (n : ℕ) :
    partialSum m d r c (1024 * n)
        + ∑ k ∈ Finset.range 1024, term (argX m d) (argW m d) (argS m d) (argZ m d) r c (1024 * n + k)
      = partialSum m d r c (1024 * (n + 1)) := by
  unfold partialSum
  rw [show 1024 * (n + 1) = 1024 * n + 1024 by omega, Finset.sum_range_add]

/-- What the carried state holds after point `n`. -/
structure After (d : Dev nD) (n : ℕ) (st : Vec Ideal S48x7168 .bf16 × Vec Ideal S2x80x2x7168 .bf16 × Vec Ideal S2x80x2x7168 .bf16 × Vec Ideal S48x7168 .f32) : Prop where
  scales : Holds st.2.1 (scaleOf (argS m d))
  zeros : Holds st.2.2.1 (zeroOf (argZ m d))
  acc : ∀ (r : Fin 48) (c : Fin 7168), st.2.2.2 (ix2 r c) = partialSum m d r c (1024 * (n + 1))

/-- The three parts put together, for a state given by its components. -/
theorem After.of_parts (d : Dev nD) (n : ℕ) (st : Vec Ideal S48x7168 .bf16 × Vec Ideal S2x80x2x7168 .bf16 × Vec Ideal S2x80x2x7168 .bf16 × Vec Ideal S48x7168 .f32) (o s z a) (e : st = (o, s, z, a)) (hs : Holds s (scaleOf (argS m d))) (hz : Holds z (zeroOf (argZ m d)))
    (ha : ∀ (r : Fin 48) (c : Fin 7168), a (ix2 r c) = partialSum m d r c (1024 * (n + 1))) : After m d n st := by
  subst e
  exact ⟨hs, hz, ha⟩

/-- The output component of a state given by its components. -/
theorem fst_of_parts (st : Vec Ideal S48x7168 .bf16 × Vec Ideal S2x80x2x7168 .bf16 × Vec Ideal S2x80x2x7168 .bf16 × Vec Ideal S48x7168 .f32) (o s z a) (e : st = (o, s, z, a)) (r : Fin 48) (c : Fin 7168) (v : EReal) (h : o (ix2 r c) = v) : st.1 (ix2 r c) = v := by
  subst e
  exact h

/-- A point's coordinate is below 20. -/
theorem coords_lt (t : Fin cfg0.N) : (grid0.coords t (0 : Fin 1)).val < 20 := by
  rw [(index_facts t).2.2.2.2.2.2.2.2]; exact lt_N t.isLt

/-- `holds_scales`, with the scale block under another name. -/
theorem scales_first (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) (y : Vec Ideal S160x7168 .bf16) (h : x2 = y) :
    Holds (sout0_A_0 d i arg1 harg1 arg2 harg2 arg3 harg3 arg4 harg4 arg5 harg5 arg6 harg6 arg7 harg7 arg8 harg8 hc0 hc1 x0 x1 x2 x3) (scaleOf y) := by
  rw [← h]; exact holds_scales d i arg1 harg1 arg2 harg2 arg3 harg3 arg4 harg4 arg5 harg5 arg6 harg6 arg7 harg7 arg8 harg8 hc0 hc1 x0 x1 x2 x3

/-- `holds_zeros`, with the zero-point block under another name. -/
theorem zeros_first (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) (y : Vec Ideal S160x3584 .i8) (h : x3 = y) :
    Holds (sout0_A_1 d i arg1 harg1 arg2 harg2 arg3 harg3 arg4 harg4 arg5 harg5 arg6 harg6 arg7 harg7 arg8 harg8 hc0 hc1 x0 x1 x2 x3) (zeroOf y) := by
  rw [← h]; exact holds_zeros d i arg1 harg1 arg2 harg2 arg3 harg3 arg4 harg4 arg5 harg5 arg6 harg6 arg7 harg7 arg8 harg8 hc0 hc1 x0 x1 x2 x3

/-- `acc_A`, with the scale and zero-point blocks under other names. -/
theorem acc_first (d : Dev nD) (i : grid0.Coords) (arg1 : Memref sig .tc .vmem S48x1024 .bf16) (harg1 : arg1.IsWhole) (arg2 : Memref sig .tc .vmem S512x7168 .i8) (harg2 : arg2.IsWhole) (arg3 : Memref sig .tc .vmem S160x7168 .bf16) (harg3 : arg3.IsWhole) (arg4 : Memref sig .tc .vmem S160x3584 .i8) (harg4 : arg4.IsWhole) (arg5 : Memref sig .tc .vmem S48x7168 .bf16) (harg5 : arg5.IsWhole) (arg6 : Memref sig .tc .vmem S2x80x2x7168 .bf16) (harg6 : arg6.IsWhole) (arg7 : Memref sig .tc .vmem S2x80x2x7168 .bf16) (harg7 : arg7.IsWhole) (arg8 : Memref sig .tc .vmem S48x7168 .f32) (harg8 : arg8.IsWhole) (hc0 : cond0_0 i) (hc1 : ¬cond0_1 i)
    (x0 : Vec Ideal S48x1024 .bf16) (x1 : Vec Ideal S512x7168 .i8) (x2 : Vec Ideal S160x7168 .bf16) (x3 : Vec Ideal S160x3584 .i8) (hi : (i 0).val < 20) (r : Fin 48) (c : Fin 7168) (y2 : Vec Ideal S160x7168 .bf16) (h2 : x2 = y2) (y3 : Vec Ideal S160x3584 .i8) (h3 : x3 = y3) :
    sout0_A_2 d i arg1 harg1 arg2 harg2 arg3 harg3 arg4 harg4 arg5 harg5 arg6 harg6 arg7 harg7 arg8 harg8 hc0 hc1 x0 x1 x2 x3 (ix2 r c) = 0 + blockDot (zeroOf y3) (scaleOf y2) (i 0).val hi x1 x0 r c := by
  rw [← h2, ← h3]; exact acc_A d i arg1 harg1 arg2 harg2 arg3 harg3 arg4 harg4 arg5 harg5 arg6 harg6 arg7 harg7 arg8 harg8 hc0 hc1 x0 x1 x2 x3 hi r c

/-- The state after the first point, whatever came before. -/
theorem after_first (d : Dev nD) (t : Fin cfg0.N) (ht : t.val = 0) (st) : After m d t.val (stAt0 m d t.val t.isLt st) := by
  have h0 : t.val % 20 = 0 := by omega
  have h1 : ¬t.val % 20 = 19 := by omega
  refine After.of_parts m d _ _ _ _ _ _ (stAt0_A m d t st h0 h1) ?_ ?_ fun r c => ?_
  · exact scales_first _ _ _ _ _ _ _ _ _ _ _ _ _ _ _ _ _ _ _ _ _ _ _ _ _ (blk_s m d t)
  · exact zeros_first _ _ _ _ _ _ _ _ _ _ _ _ _ _ _ _ _ _ _ _ _ _ _ _ _ (blk_z m d t)
  · refine (acc_first _ _ _ _ _ _ _ _ _ _ _ _ _ _ _ _ _ _ _ _ _ _ _ _ (coords_lt t) r c _ (blk_s m d t) _ (blk_z m d t)).trans ?_
    rw [blockDot_eq m d t _ (coords_lt t) (index_facts t).2.2.2.2.2.2.2.2, ht]
    refine Eq.trans ?_ (partialSum_step m d r c 0)
    unfold partialSum
    rw [Nat.mul_zero, Finset.range_zero, Finset.sum_empty]

/-- A middle point keeps the scales and zero points and adds its block of terms. -/
theorem after_mid (d : Dev nD) (t : Fin cfg0.N) (n : ℕ) (ht : t.val = n + 1) (hn : n + 1 < 19) (st) (hs : After m d n st) :
    After m d t.val (stAt0 m d t.val t.isLt st) := by
  have h0 : ¬t.val % 20 = 0 := by omega
  have h1 : ¬t.val % 20 = 19 := by omega
  have hi := coords_lt t
  refine After.of_parts m d _ _ _ _ _ _ (stAt0_B m d t st h0 h1) hs.scales hs.zeros fun r c => ?_
  have e := acc_B d (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _)
      (fun h' => h0 ((hcond0_0 t).mp h')) (fun h' => h1 ((hcond0_1 t).mp h')) (iblk m d 0 t) (iblk m d 1 t) (iblk m d 2 t) (iblk m d 3 t)
      st.2.1 st.2.2.1 st.2.2.2 _ _ hs.zeros hs.scales hi r c
  rw [blockDot_eq m d t _ hi (index_facts t).2.2.2.2.2.2.2.2, hs.acc] at e
  refine e.trans ?_
  rw [ht]
  exact partialSum_step m d r c (n + 1)

/-- The last point's output, over the state that the points before it left. -/
theorem out_of_after (d : Dev nD) (t : Fin cfg0.N) (ht : t.val = 19) (st) (hs : After m d 18 st) (r : Fin 48) (c : Fin 7168) :
    (stAt0 m d t.val t.isLt st).1 (ix2 r c) = partialSum m d r c 20480 := by
  have h0 : ¬t.val % 20 = 0 := by omega
  have h1 : t.val % 20 = 19 := by omega
  refine fst_of_parts _ _ _ _ _ (stAt0_C m d t st h0 h1) r c _ ?_
  refine (value_C _ _ _ _ _ _ _ _ _ _ _ _ _ _ _ _ _ _ _ _ _ _ _ _ _ _ _ _ _ hs.zeros hs.scales (coords_lt t) r c).trans ?_
  rw [blockDot_eq m d t _ (coords_lt t) (index_facts t).2.2.2.2.2.2.2.2, hs.acc, ht]
  exact partialSum_step m d r c 19

/-- The carried state after every point but the last, by induction on the point. -/
theorem after_outs (d : Dev nD) : ∀ (n : ℕ) (h : n < cfg0.N), n < 19 → After m d n (outsAt0 m d n h)
  | 0, h, _ => by rw [outsAt0_zero]; exact after_first m d ⟨0, h⟩ rfl _
  | n + 1, h, hn => by
    rw [outsAt0_succ]
    exact after_mid m d ⟨n + 1, h⟩ n rfl hn _ (after_outs d n (Nat.lt_of_succ_lt h) (by omega))

/-- The output window after the last point: every term. -/
theorem out_last (d : Dev nD) (h : 19 < cfg0.N) (r : Fin 48) (c : Fin 7168) :
    (outsAt0 m d 19 h).1 (ix2 r c) = partialSum m d r c 20480 := by
  rw [outsAt0_succ m d 18 h]
  exact out_of_after m d ⟨19, h⟩ rfl _ (after_outs m d 18 (Nat.lt_of_succ_lt h) (by decide)) r c

/-- The kernel's result: element `(r, c)` is the sum of all 20480 terms. -/
theorem result_apply (d : Dev nD) (r : Fin 48) (c : Fin 7168) :
    (G4 m d : Vec Ideal S48x7168 .bf16) (ix2 r c) = partialSum m d r c 20480 := by
  have h : 19 < cfg0.N := lt_of_lt_of_eq (by decide) N_0.symm
  rw [G4_last, ← outsAt0_sweep m d 19 h]
  exact out_last m d h r c

end Cert.KernelIdeal.Tile
-- ==== Proof.RefValue.lean ====
/-
  The reference's result, element by element: the even rows' product plus the odd rows' product, each term the activation
  times the dequantized weight.
-/
module

public import proofs.«01_k».proof.Proof.Terms
public import proofs.«01_k».proof.Proof.Gen.ReferenceIdeal.Read
public import Idealize.ShloMosaic.Lib.Pointwise

@[expose] public section

set_option maxRecDepth 16384

noncomputable section

namespace Cert.ReferenceIdeal.Tile

open Idealize.ShloMosaic Idealize.SL.Sem Cert.ReferenceIdeal Cert.ReferenceIdeal.Gen Cert.ReferenceIdeal.Read
open Cert.KernelIdeal.Tile (nib term nib_congr sum_even_odd)

variable (x : Vec Ideal S48x1x20480 .bf16) (w : Vec Ideal S10240x7168 .i8) (s : Vec Ideal S160x7168 .bf16) (z : Vec Ideal S160x3584 .i8)

/-- The zero points: column `c` is a nibble of byte `c / 2`. -/
theorem zero_apply (g : Fin 160) (c : Fin 7168) :
    (FloatOps.sitofp (F := Ideal) .bf16 (val_main_v13 (F := Ideal) z (ix2 g c)) : EReal) = nib c.val (z (ix2 g ⟨c.val / 2, by omega⟩)) := by
  have h : val_main_v13 (F := Ideal) z (ix2 g c)
      = if c.val % 2 = 0 then (z (ix2 g ⟨c.val / 2, by omega⟩)).setWidth 32 &&& 15#32
        else ((z (ix2 g ⟨c.val / 2, by omega⟩)).setWidth 32).sshiftRight 4 := by
    pointwise [val_main_v13, val_main_v12, val_main_v10, val_main_v11, val_main_v7, val_main_v9, val_main_v1, val_main_v6, val_main_v8, val_main_c_1, val_main_c_2]
    by_cases hc : c.val % 2 = 0
    · rw [dif_pos (by omega), if_pos hc]; rfl
    · rw [dif_neg (by omega), if_neg hc]; rfl
  rw [h]
  unfold nib
  split <;> rfl

/-- The even rows' dequantized weight: low nibble minus zero point, times the scale. -/
theorem lo_apply (k : Fin 10240) (c : Fin 7168) :
    val_main_v23 (F := Ideal) w s z (ix2 k c)
      = (nib 0 (w (ix2 k c)) - nib c.val (z (ix2 ⟨k.val / 64, by omega⟩ ⟨c.val / 2, by omega⟩))) * s (ix2 ⟨k.val / 64, by omega⟩ c) := by
  rw [← zero_apply]
  pointwise [val_main_v23, val_main_v22, val_main_v19, val_main_v15, val_main_v14, val_main_v3, val_main_v0, val_main_v2, val_main_c, val_main_v18, val_main_v17, val_main_v16, val_main_v21, val_main_v20]
  rfl

/-- The odd rows' dequantized weight: high nibble minus zero point, times the scale. -/
theorem hi_apply (k : Fin 10240) (c : Fin 7168) :
    val_main_v33 (F := Ideal) w s z (ix2 k c)
      = (nib 1 (w (ix2 k c)) - nib c.val (z (ix2 ⟨k.val / 64, by omega⟩ ⟨c.val / 2, by omega⟩))) * s (ix2 ⟨k.val / 64, by omega⟩ c) := by
  rw [← zero_apply]
  pointwise [val_main_v33, val_main_v32, val_main_v29, val_main_v25, val_main_v24, val_main_v5, val_main_v0, val_main_v4, val_main_c_0, val_main_v28, val_main_v27, val_main_v26, val_main_v31, val_main_v30]
  rfl

/-- The activations at even positions. -/
theorem even_apply (r : Fin 48) (a : Fin 1) (k : Fin 10240) :
    val_main_v34 (F := Ideal) x (ix3 r a k) = x (ix3 r 0 ⟨2 * k.val, by omega⟩) := by
  pointwise [val_main_v34]

/-- The activations at odd positions. -/
theorem odd_apply (r : Fin 48) (a : Fin 1) (k : Fin 10240) :
    val_main_v35 (F := Ideal) x (ix3 r a k) = x (ix3 r 0 ⟨2 * k.val + 1, by omega⟩) := by
  pointwise [val_main_v35]
  exact congrArg (fun j => x (ix3 r 0 j)) (Fin.ext (Nat.add_comm _ _))

/-- The first product: the sum of the even terms. -/
theorem lo_sum (r : Fin 48) (c : Fin 7168) :
    val_main_v36 (F := Ideal) x w s z (ix3 r 0 c) = ∑ k ∈ Finset.range 10240, term x w s z r c (2 * k) := by
  rw [val_main_v36_apply, Finset.sum_range]
  refine Finset.sum_congr rfl fun k _ => ?_
  have e1 : lidx_main_v36 (ix3 r 0 c) k = ix3 r 0 k := funext fun a => match a with
    | ⟨0, _⟩ => rfl
    | ⟨1, _⟩ => rfl
    | ⟨2, _⟩ => rfl
  have e2 : ridx_main_v36 (ix3 r 0 c) k = ix2 k c := funext fun a => match a with
    | ⟨0, _⟩ => rfl
    | ⟨1, _⟩ => rfl
  rw [e1, e2, even_apply, lo_apply]
  unfold term
  have hk := k.isLt
  have f1 : (⟨2 * k.val, by omega⟩ : Fin 20480) = ⟨2 * k.val % 20480, Nat.mod_lt _ (by decide)⟩ :=
    Fin.ext (by show 2 * k.val = 2 * k.val % 20480; omega)
  have f2 : k = ⟨2 * k.val / 2 % 10240, Nat.mod_lt _ (by decide)⟩ :=
    Fin.ext (by show k.val = 2 * k.val / 2 % 10240; omega)
  have f3 : (⟨k.val / 64, by omega⟩ : Fin 160) = ⟨2 * k.val / 128 % 160, Nat.mod_lt _ (by decide)⟩ :=
    Fin.ext (by show k.val / 64 = 2 * k.val / 128 % 160; omega)
  rw [f1, f3, ← f2, nib_congr (show 0 % 2 = 2 * k.val % 2 by omega)]

/-- The second product: the sum of the odd terms. -/
theorem hi_sum (r : Fin 48) (c : Fin 7168) :
    val_main_v37 (F := Ideal) x w s z (ix3 r 0 c) = ∑ k ∈ Finset.range 10240, term x w s z r c (2 * k + 1) := by
  rw [val_main_v37_apply, Finset.sum_range]
  refine Finset.sum_congr rfl fun k _ => ?_
  have e1 : lidx_main_v37 (ix3 r 0 c) k = ix3 r 0 k := funext fun a => match a with
    | ⟨0, _⟩ => rfl
    | ⟨1, _⟩ => rfl
    | ⟨2, _⟩ => rfl
  have e2 : ridx_main_v37 (ix3 r 0 c) k = ix2 k c := funext fun a => match a with
    | ⟨0, _⟩ => rfl
    | ⟨1, _⟩ => rfl
  rw [e1, e2, odd_apply, hi_apply]
  unfold term
  have hk := k.isLt
  have f1 : (⟨2 * k.val + 1, by omega⟩ : Fin 20480) = ⟨(2 * k.val + 1) % 20480, Nat.mod_lt _ (by decide)⟩ :=
    Fin.ext (by show 2 * k.val + 1 = (2 * k.val + 1) % 20480; omega)
  have f2 : k = ⟨(2 * k.val + 1) / 2 % 10240, Nat.mod_lt _ (by decide)⟩ :=
    Fin.ext (by show k.val = (2 * k.val + 1) / 2 % 10240; omega)
  have f3 : (⟨k.val / 64, by omega⟩ : Fin 160) = ⟨(2 * k.val + 1) / 128 % 160, Nat.mod_lt _ (by decide)⟩ :=
    Fin.ext (by show k.val / 64 = (2 * k.val + 1) / 128 % 160; omega)
  rw [f1, f3, ← f2, nib_congr (show 1 % 2 = (2 * k.val + 1) % 2 by omega)]

/-- The reference's result: element `(r, c)` is the sum of all 20480 terms. -/
theorem result_apply (r : Fin 48) (c : Fin 7168) :
    val_main_v40 (F := Ideal) x w s z (ix2 r c) = ∑ R ∈ Finset.range 20480, term x w s z r c R := by
  have e : idx_main_v40 (ix2 r c) = ix3 r 0 c := funext fun a => match a with
    | ⟨0, _⟩ => Fin.ext (by show (r.val * 7168 + c.val) / 7168 = r.val; omega)
    | ⟨1, _⟩ => rfl
    | ⟨2, _⟩ => Fin.ext (by show (r.val * 7168 + c.val) % 7168 = c.val; omega)
  rw [val_main_v40_apply, e, val_main_v39_apply, val_main_v38_apply, lo_sum, hi_sum, sum_even_odd _ 10240]
  rfl

end Cert.ReferenceIdeal.Tile
-- ==== Proof.lean ====
/-
  The certificate of the dequantizing matrix product: the three frames, the rewrites' statements, and the equality of the
  kernel's result with the reference's over the extended reals, both being the sum of the same 20480 terms.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Fold
public import proofs.«01_k».proof.Proof.RefValue
public import Idealize.ShloMosaic.Lib.Bf16PairInverse
public import Idealize.ShloMosaic.Lib.Quiescent

@[expose] public section

noncomputable section

namespace Cert.Proof

open Idealize.ShloMosaic Idealize.SL.Sem

/-- The reference declares no semaphore, so its run is its frame. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites' statements: the two word buffers, and the word and row views at the four shapes of access. -/
theorem preserves : Cert.preserves_Kernel_KernelIdeal :=
  ⟨IdealRules.bf16_pair.bufferStatement Cert.KernelIdeal.S2x80x2x7168 Cert.KernelIdeal.S2x80x1x7168,
    IdealRules.bf16_pair.statement Cert.KernelIdeal.S160x256 Cert.KernelIdeal.S80x256,
    IdealRules.bf16_pair.statement Cert.KernelIdeal.S1x80x2x256 Cert.KernelIdeal.S1x80x1x256,
    IdealRules.bf16_pair.statement Cert.KernelIdeal.S1x1x2x7168 Cert.KernelIdeal.S1x1x1x7168,
    IdealRules.bf16_pair.statement Cert.KernelIdeal.S2x7168 Cert.KernelIdeal.S1x7168⟩

/-- The two results are one array: at every element the sum of the same terms. -/
theorem values_eq (m : (ℓ : Loc Cert.KernelIdeal.nD Cert.KernelIdeal.τ Cert.KernelIdeal.sig) → Buf (Elt Ideal) ℓ) (d : Dev Cert.KernelIdeal.nD) :
    Cert.ReferenceIdeal.Read.val_main_v40 (F := Ideal) (Cert.KernelIdeal.Tile.argX m d) (Cert.KernelIdeal.Tile.argW m d)
        (Cert.KernelIdeal.Tile.argS m d) (Cert.KernelIdeal.Tile.argZ m d)
      = Cert.KernelIdeal.Value.G4 m d := by
  funext i
  rw [eq_ix2 i]
  exact (Cert.ReferenceIdeal.Tile.result_apply _ _ _ _ _ _).trans (Cert.KernelIdeal.Tile.result_apply m d _ _).symm

theorem algebraic : Cert.algebraic_KernelIdeal_ReferenceIdeal := by
  intro m g m' g' _ hargs
  refine ⟨fun c => Cert.KernelIdeal.Value.G4 m c, Cert.KernelIdeal.Value.run (F := Ideal) m g, ?_⟩
  refine (θ_run Cert.ReferenceIdeal.defs _ _).mono (fun r h c => ⟨?_, (h c).2⟩) (Cert.ReferenceIdeal.Value.run (F := Ideal) m' g')
  obtain ⟨h0, h1, h2, h3⟩ := hargs c
  refine ((h c).1.trans (Cert.ReferenceIdeal.Read.val_main_v40_eq _ _ _ _)).trans ?_
  rw [h0, h1, h2, h3]
  exact values_eq m c

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves, algebraic⟩

end Cert.Proof

end
